-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 1024, 16, 64]⟩ ⟨4, ![2, 1024, 32, 64]⟩ (Layout.meshBlock [2, 2] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![2, 512, 2048]⟩ ⟨3, ![2, 1024, 2048]⟩ (Layout.meshBlock [2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16x64 : Shape := ⟨4, ![2, 1024, 16, 64]⟩
abbrev S1024x2048 : Shape := ⟨2, ![1024, 2048]⟩
abbrev S2x1024x1024 : Shape := ⟨3, ![2, 1024, 1024]⟩
abbrev S2x512x2048 : Shape := ⟨3, ![2, 512, 2048]⟩
abbrev S2x256x2048 : Shape := ⟨3, ![2, 256, 2048]⟩
abbrev S16 : Shape := ⟨1, ![16]⟩
abbrev S2 : Shape := ⟨1, ![2]⟩
abbrev S_ : Shape := ⟨0, ![]⟩
abbrev S1x32x1024 : Shape := ⟨3, ![1, 32, 1024]⟩
abbrev S32x1024 : Shape := ⟨2, ![32, 1024]⟩
abbrev S32x2048 : Shape := ⟨2, ![32, 2048]⟩
abbrev S1x32x2048 : Shape := ⟨3, ![1, 32, 2048]⟩
abbrev S1 : Shape := ⟨1, ![1]⟩
abbrev S1x224x1024 : Shape := ⟨3, ![1, 224, 1024]⟩
abbrev S224x1024 : Shape := ⟨2, ![224, 1024]⟩
abbrev S224x2048 : Shape := ⟨2, ![224, 2048]⟩
abbrev S1x224x2048 : Shape := ⟨3, ![1, 224, 2048]⟩
abbrev S1x256x1024 : Shape := ⟨3, ![1, 256, 1024]⟩
abbrev S256x1024 : Shape := ⟨2, ![256, 1024]⟩
abbrev S256x2048 : Shape := ⟨2, ![256, 2048]⟩
abbrev S1x256x2048 : Shape := ⟨3, ![1, 256, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2x1024x16x64, .f32⟩
  | .hbm, ⟨1, _⟩ => ⟨S1024x2048, .f32⟩
  | .hbm, ⟨2, _⟩ => ⟨S2x1024x1024, .f32⟩
  | .hbm, ⟨3, _⟩ => ⟨S2x512x2048, .f32⟩
  | .local _ .vmem, ⟨0, _⟩ => ⟨S2x1024x1024, .f32⟩
  | .local _ .vmem, ⟨1, _⟩ => ⟨S1024x2048, .f32⟩
  | .local _ .vmem, ⟨2, _⟩ => ⟨S2x256x2048, .f32⟩
  | .local _ .vmem, ⟨3, _⟩ => ⟨S2x256x2048, .f32⟩
  | .local _ .vmem, ⟨4, _⟩ => ⟨S2x256x2048, .f32⟩
  | .local _ .vmem, ⟨5, _⟩ => ⟨S2x256x2048, .f32⟩
  | .local _ .vmem, ⟨6, _⟩ => ⟨S2x256x2048, .f32⟩
  | _, _ => ⟨S2x1024x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) : Fin 3 → Nat :=
  let c0_13 : Index := 0#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c512_i32 : BitVec 32 := 512#32
  let v19 : BitVec 32 := Scalar.muli v6 c512_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v20 : BitVec 32 := Scalar.muli v2 c256_i32
  let v21 : BitVec 32 := Scalar.addi v19 v20
  let v22 : Index := Scalar.indexCast v21
  let c0_14 : Index := 0#32
  ![0, v22.toNat, 0]
def k0_dev3 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v29 : BitVec 32 := Scalar.muli v2 c2_i32_22
  let v30 : BitVec 32 := Scalar.addi c0_i32_23 v29
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v31 : BitVec 32 := Scalar.muli v6 c1_i32_24
  let v32 : BitVec 32 := Scalar.addi v30 v31
  v32.toNat
def k0_off2 (d0 : Dev nD) : Fin 3 → Nat :=
  let c0_29 : Index := 0#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c512_i32 : BitVec 32 := 512#32
  let v19 : BitVec 32 := Scalar.muli v6 c512_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v20 : BitVec 32 := Scalar.muli v2 c256_i32
  let v21 : BitVec 32 := Scalar.addi v19 v20
  let c32_i32 : BitVec 32 := 32#32
  let v41 : BitVec 32 := Scalar.addi v21 c32_i32
  let v42 : Index := Scalar.indexCast v41
  let c0_30 : Index := 0#32
  ![0, v42.toNat, 0]
def k0_dev4 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v49 : BitVec 32 := Scalar.muli v2 c2_i32_38
  let v50 : BitVec 32 := Scalar.addi c0_i32_39 v49
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v51 : BitVec 32 := Scalar.muli v6 c1_i32_40
  let v52 : BitVec 32 := Scalar.addi v50 v51
  v52.toNat
def k0_dev5 (d0 : Dev nD) : Nat :=
  let c0_i32_50 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_49 : BitVec 32 := 2#32
  let v61 : BitVec 32 := Scalar.muli v2 c2_i32_49
  let v62 : BitVec 32 := Scalar.addi c0_i32_50 v61
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_51 : BitVec 32 := 1#32
  let v63 : BitVec 32 := Scalar.muli v6 c1_i32_51
  let v64 : BitVec 32 := Scalar.addi v62 v63
  v64.toNat
def k0_dev6 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v73 : BitVec 32 := Scalar.muli v2 c2_i32_58
  let v74 : BitVec 32 := Scalar.addi c0_i32_59 v73
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_60 : BitVec 32 := 1#32
  let v75 : BitVec 32 := Scalar.muli v6 c1_i32_60
  let v76 : BitVec 32 := Scalar.addi v74 v75
  v76.toNat
def k0_dev7 (d0 : Dev nD) : Nat :=
  let c0_i32_68 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_67 : BitVec 32 := 2#32
  let v85 : BitVec 32 := Scalar.muli v2 c2_i32_67
  let v86 : BitVec 32 := Scalar.addi c0_i32_68 v85
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_69 : BitVec 32 := 1#32
  let v87 : BitVec 32 := Scalar.muli v6 c1_i32_69
  let v88 : BitVec 32 := Scalar.addi v86 v87
  v88.toNat
def k0_dev8 (d0 : Dev nD) : Nat :=
  let c0_i32_77 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_76 : BitVec 32 := 2#32
  let v97 : BitVec 32 := Scalar.muli v2 c2_i32_76
  let v98 : BitVec 32 := Scalar.addi c0_i32_77 v97
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_78 : BitVec 32 := 1#32
  let v99 : BitVec 32 := Scalar.muli v6 c1_i32_78
  let v100 : BitVec 32 := Scalar.addi v98 v99
  v100.toNat
def k0_dev9 (d0 : Dev nD) : Nat :=
  let c0_i32_86 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_85 : BitVec 32 := 2#32
  let v109 : BitVec 32 := Scalar.muli v2 c2_i32_85
  let v110 : BitVec 32 := Scalar.addi c0_i32_86 v109
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_87 : BitVec 32 := 1#32
  let v111 : BitVec 32 := Scalar.muli v6 c1_i32_87
  let v112 : BitVec 32 := Scalar.addi v110 v111
  v112.toNat
def k0_dev10 (d0 : Dev nD) : Nat :=
  let c0_i32_95 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_94 : BitVec 32 := 2#32
  let v121 : BitVec 32 := Scalar.muli v2 c2_i32_94
  let v122 : BitVec 32 := Scalar.addi c0_i32_95 v121
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_96 : BitVec 32 := 1#32
  let v123 : BitVec 32 := Scalar.muli v6 c1_i32_96
  let v124 : BitVec 32 := Scalar.addi v122 v123
  v124.toNat
def k0_off3 (d0 : Dev nD) : Fin 3 → Nat :=
  let c1 : Index := 1#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c512_i32_100 : BitVec 32 := 512#32
  let v133 : BitVec 32 := Scalar.muli v6 c512_i32_100
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_101 : BitVec 32 := 256#32
  let v134 : BitVec 32 := Scalar.muli v2 c256_i32_101
  let v135 : BitVec 32 := Scalar.addi v133 v134
  let v136 : Index := Scalar.indexCast v135
  let c0_102 : Index := 0#32
  ![1, v136.toNat, 0]
def k0_dev11 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v143 : BitVec 32 := Scalar.muli v2 c2_i32_110
  let v144 : BitVec 32 := Scalar.addi c0_i32_111 v143
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_112 : BitVec 32 := 1#32
  let v145 : BitVec 32 := Scalar.muli v6 c1_i32_112
  let v146 : BitVec 32 := Scalar.addi v144 v145
  v146.toNat
def k0_off4 (d0 : Dev nD) : Fin 3 → Nat :=
  let c1_118 : Index := 1#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c512_i32_100 : BitVec 32 := 512#32
  let v133 : BitVec 32 := Scalar.muli v6 c512_i32_100
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_101 : BitVec 32 := 256#32
  let v134 : BitVec 32 := Scalar.muli v2 c256_i32_101
  let v135 : BitVec 32 := Scalar.addi v133 v134
  let c32_i32_117 : BitVec 32 := 32#32
  let v155 : BitVec 32 := Scalar.addi v135 c32_i32_117
  let v156 : Index := Scalar.indexCast v155
  let c0_119 : Index := 0#32
  ![1, v156.toNat, 0]
def k0_dev12 (d0 : Dev nD) : Nat :=
  let c0_i32_128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_127 : BitVec 32 := 2#32
  let v163 : BitVec 32 := Scalar.muli v2 c2_i32_127
  let v164 : BitVec 32 := Scalar.addi c0_i32_128 v163
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_129 : BitVec 32 := 1#32
  let v165 : BitVec 32 := Scalar.muli v6 c1_i32_129
  let v166 : BitVec 32 := Scalar.addi v164 v165
  v166.toNat
def k0_dev13 (d0 : Dev nD) : Nat :=
  let c0_i32_138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_137 : BitVec 32 := 2#32
  let v175 : BitVec 32 := Scalar.muli v2 c2_i32_137
  let v176 : BitVec 32 := Scalar.addi c0_i32_138 v175
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_139 : BitVec 32 := 1#32
  let v177 : BitVec 32 := Scalar.muli v6 c1_i32_139
  let v178 : BitVec 32 := Scalar.addi v176 v177
  v178.toNat
def k0_dev14 (d0 : Dev nD) : Nat :=
  let c0_i32_148 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_147 : BitVec 32 := 2#32
  let v187 : BitVec 32 := Scalar.muli v2 c2_i32_147
  let v188 : BitVec 32 := Scalar.addi c0_i32_148 v187
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_149 : BitVec 32 := 1#32
  let v189 : BitVec 32 := Scalar.muli v6 c1_i32_149
  let v190 : BitVec 32 := Scalar.addi v188 v189
  v190.toNat
def k0_dev15 (d0 : Dev nD) : Nat :=
  let c0_i32_158 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_157 : BitVec 32 := 2#32
  let v199 : BitVec 32 := Scalar.muli v2 c2_i32_157
  let v200 : BitVec 32 := Scalar.addi c0_i32_158 v199
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_159 : BitVec 32 := 1#32
  let v201 : BitVec 32 := Scalar.muli v6 c1_i32_159
  let v202 : BitVec 32 := Scalar.addi v200 v201
  v202.toNat
def k0_dev16 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v211 : BitVec 32 := Scalar.muli v2 c2_i32_167
  let v212 : BitVec 32 := Scalar.addi c0_i32_168 v211
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_169 : BitVec 32 := 1#32
  let v213 : BitVec 32 := Scalar.muli v6 c1_i32_169
  let v214 : BitVec 32 := Scalar.addi v212 v213
  v214.toNat
def k0_dev17 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v223 : BitVec 32 := Scalar.muli v2 c2_i32_177
  let v224 : BitVec 32 := Scalar.addi c0_i32_178 v223
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_179 : BitVec 32 := 1#32
  let v225 : BitVec 32 := Scalar.muli v6 c1_i32_179
  let v226 : BitVec 32 := Scalar.addi v224 v225
  v226.toNat
def k0_dev18 (d0 : Dev nD) : Nat :=
  let c0_i32_188 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_187 : BitVec 32 := 2#32
  let v235 : BitVec 32 := Scalar.muli v2 c2_i32_187
  let v236 : BitVec 32 := Scalar.addi c0_i32_188 v235
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_189 : BitVec 32 := 1#32
  let v237 : BitVec 32 := Scalar.muli v6 c1_i32_189
  let v238 : BitVec 32 := Scalar.addi v236 v237
  v238.toNat
def k0_off5 (d0 : Dev nD) : Fin 3 → Nat :=
  let c0_196 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_194 : BitVec 32 := 512#32
  let v247 : BitVec 32 := Scalar.muli v5 c512_i32_194
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_195 : BitVec 32 := 256#32
  let v248 : BitVec 32 := Scalar.muli v2 c256_i32_195
  let v249 : BitVec 32 := Scalar.addi v247 v248
  let v250 : Index := Scalar.indexCast v249
  let c0_197 : Index := 0#32
  ![0, v250.toNat, 0]
def k0_off6 (d0 : Dev nD) : Fin 3 → Nat :=
  let c1_204 : Index := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_202 : BitVec 32 := 512#32
  let v257 : BitVec 32 := Scalar.muli v5 c512_i32_202
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_203 : BitVec 32 := 256#32
  let v258 : BitVec 32 := Scalar.muli v2 c256_i32_203
  let v259 : BitVec 32 := Scalar.addi v257 v258
  let v260 : Index := Scalar.indexCast v259
  let c0_205 : Index := 0#32
  ![1, v260.toNat, 0]
def k0_dev19 (d0 : Dev nD) : Nat :=
  let c0_i32_235 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_234 : BitVec 32 := 2#32
  let v285 : BitVec 32 := Scalar.muli v7 c2_i32_234
  let v286 : BitVec 32 := Scalar.addi c0_i32_235 v285
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v287 : BitVec 32 := Scalar.muli v5 c1_i32_236
  let v288 : BitVec 32 := Scalar.addi v286 v287
  v288.toNat
def k0_off7 (d0 : Dev nD) (c0_i32_242 : BitVec 32) : Fin 3 → Nat :=
  let c0_i32_244 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_241 : BitVec 32 := 256#32
  let v297 : BitVec 32 := Scalar.muli v2 c256_i32_241
  let v298 : BitVec 32 := Scalar.addi v297 c0_i32_242
  let c0_i32_246 : BitVec 32 := 0#32
  ![0, v298.toNat, 0]
def k0_dev20 (d0 : Dev nD) : Nat :=
  let c0_i32_274 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_273 : BitVec 32 := 2#32
  let v323 : BitVec 32 := Scalar.muli v7 c2_i32_273
  let v324 : BitVec 32 := Scalar.addi c0_i32_274 v323
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_275 : BitVec 32 := 1#32
  let v325 : BitVec 32 := Scalar.muli v5 c1_i32_275
  let v326 : BitVec 32 := Scalar.addi v324 v325
  v326.toNat
def k0_dev21 (d0 : Dev nD) : Nat :=
  let c0_i32_312 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_311 : BitVec 32 := 2#32
  let v361 : BitVec 32 := Scalar.muli v7 c2_i32_311
  let v362 : BitVec 32 := Scalar.addi c0_i32_312 v361
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_313 : BitVec 32 := 1#32
  let v363 : BitVec 32 := Scalar.muli v5 c1_i32_313
  let v364 : BitVec 32 := Scalar.addi v362 v363
  v364.toNat
def k0_dev22 (d0 : Dev nD) : Nat :=
  let c0_i32_356 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_355 : BitVec 32 := 2#32
  let v405 : BitVec 32 := Scalar.muli v7 c2_i32_355
  let v406 : BitVec 32 := Scalar.addi c0_i32_356 v405
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_357 : BitVec 32 := 1#32
  let v407 : BitVec 32 := Scalar.muli v5 c1_i32_357
  let v408 : BitVec 32 := Scalar.addi v406 v407
  v408.toNat
def k0_dev23 (d0 : Dev nD) : Nat :=
  let c0_i32_400 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_399 : BitVec 32 := 2#32
  let v449 : BitVec 32 := Scalar.muli v7 c2_i32_399
  let v450 : BitVec 32 := Scalar.addi c0_i32_400 v449
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_401 : BitVec 32 := 1#32
  let v451 : BitVec 32 := Scalar.muli v5 c1_i32_401
  let v452 : BitVec 32 := Scalar.addi v450 v451
  v452.toNat
def k0_dev24 (d0 : Dev nD) : Nat :=
  let c0_i32_444 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_443 : BitVec 32 := 2#32
  let v493 : BitVec 32 := Scalar.muli v7 c2_i32_443
  let v494 : BitVec 32 := Scalar.addi c0_i32_444 v493
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_445 : BitVec 32 := 1#32
  let v495 : BitVec 32 := Scalar.muli v5 c1_i32_445
  let v496 : BitVec 32 := Scalar.addi v494 v495
  v496.toNat
def k0_dev25 (d0 : Dev nD) : Nat :=
  let c0_i32_488 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_487 : BitVec 32 := 2#32
  let v537 : BitVec 32 := Scalar.muli v7 c2_i32_487
  let v538 : BitVec 32 := Scalar.addi c0_i32_488 v537
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_489 : BitVec 32 := 1#32
  let v539 : BitVec 32 := Scalar.muli v5 c1_i32_489
  let v540 : BitVec 32 := Scalar.addi v538 v539
  v540.toNat
def k0_dev26 (d0 : Dev nD) : Nat :=
  let c0_i32_532 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_531 : BitVec 32 := 2#32
  let v581 : BitVec 32 := Scalar.muli v7 c2_i32_531
  let v582 : BitVec 32 := Scalar.addi c0_i32_532 v581
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_533 : BitVec 32 := 1#32
  let v583 : BitVec 32 := Scalar.muli v5 c1_i32_533
  let v584 : BitVec 32 := Scalar.addi v582 v583
  v584.toNat
def k0_dev27 (d0 : Dev nD) : Nat :=
  let c0_i32_577 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_576 : BitVec 32 := 2#32
  let v625 : BitVec 32 := Scalar.muli v7 c2_i32_576
  let v626 : BitVec 32 := Scalar.addi c0_i32_577 v625
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_578 : BitVec 32 := 1#32
  let v627 : BitVec 32 := Scalar.muli v5 c1_i32_578
  let v628 : BitVec 32 := Scalar.addi v626 v627
  v628.toNat
def k0_off8 (d0 : Dev nD) (c0_i32_584 : BitVec 32) : Fin 3 → Nat :=
  let c1_i32_592 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_583 : BitVec 32 := 256#32
  let v637 : BitVec 32 := Scalar.muli v2 c256_i32_583
  let v638 : BitVec 32 := Scalar.addi v637 c0_i32_584
  let c0_i32_594 : BitVec 32 := 0#32
  ![1, v638.toNat, 0]
def k0_dev28 (d0 : Dev nD) : Nat :=
  let c0_i32_622 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_621 : BitVec 32 := 2#32
  let v669 : BitVec 32 := Scalar.muli v7 c2_i32_621
  let v670 : BitVec 32 := Scalar.addi c0_i32_622 v669
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_623 : BitVec 32 := 1#32
  let v671 : BitVec 32 := Scalar.muli v5 c1_i32_623
  let v672 : BitVec 32 := Scalar.addi v670 v671
  v672.toNat
def k0_dev29 (d0 : Dev nD) : Nat :=
  let c0_i32_667 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_666 : BitVec 32 := 2#32
  let v713 : BitVec 32 := Scalar.muli v7 c2_i32_666
  let v714 : BitVec 32 := Scalar.addi c0_i32_667 v713
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_668 : BitVec 32 := 1#32
  let v715 : BitVec 32 := Scalar.muli v5 c1_i32_668
  let v716 : BitVec 32 := Scalar.addi v714 v715
  v716.toNat
def k0_dev30 (d0 : Dev nD) : Nat :=
  let c0_i32_712 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_711 : BitVec 32 := 2#32
  let v757 : BitVec 32 := Scalar.muli v7 c2_i32_711
  let v758 : BitVec 32 := Scalar.addi c0_i32_712 v757
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_713 : BitVec 32 := 1#32
  let v759 : BitVec 32 := Scalar.muli v5 c1_i32_713
  let v760 : BitVec 32 := Scalar.addi v758 v759
  v760.toNat
def k0_dev31 (d0 : Dev nD) : Nat :=
  let c0_i32_757 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_756 : BitVec 32 := 2#32
  let v801 : BitVec 32 := Scalar.muli v7 c2_i32_756
  let v802 : BitVec 32 := Scalar.addi c0_i32_757 v801
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_758 : BitVec 32 := 1#32
  let v803 : BitVec 32 := Scalar.muli v5 c1_i32_758
  let v804 : BitVec 32 := Scalar.addi v802 v803
  v804.toNat
def k0_dev32 (d0 : Dev nD) : Nat :=
  let c0_i32_802 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_801 : BitVec 32 := 2#32
  let v845 : BitVec 32 := Scalar.muli v7 c2_i32_801
  let v846 : BitVec 32 := Scalar.addi c0_i32_802 v845
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_803 : BitVec 32 := 1#32
  let v847 : BitVec 32 := Scalar.muli v5 c1_i32_803
  let v848 : BitVec 32 := Scalar.addi v846 v847
  v848.toNat
def k0_dev33 (d0 : Dev nD) : Nat :=
  let c0_i32_847 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_846 : BitVec 32 := 2#32
  let v889 : BitVec 32 := Scalar.muli v7 c2_i32_846
  let v890 : BitVec 32 := Scalar.addi c0_i32_847 v889
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_848 : BitVec 32 := 1#32
  let v891 : BitVec 32 := Scalar.muli v5 c1_i32_848
  let v892 : BitVec 32 := Scalar.addi v890 v891
  v892.toNat
def k0_dev34 (d0 : Dev nD) : Nat :=
  let c0_i32_892 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_891 : BitVec 32 := 2#32
  let v933 : BitVec 32 := Scalar.muli v7 c2_i32_891
  let v934 : BitVec 32 := Scalar.addi c0_i32_892 v933
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_893 : BitVec 32 := 1#32
  let v935 : BitVec 32 := Scalar.muli v5 c1_i32_893
  let v936 : BitVec 32 := Scalar.addi v934 v935
  v936.toNat
def k0_off9 (d0 : Dev nD) (c0_i32_924 : BitVec 32) : Fin 3 → Nat :=
  let c0_i32_932 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c256_i32_923 : BitVec 32 := 256#32
  let v969 : BitVec 32 := Scalar.muli v7 c256_i32_923
  let v970 : BitVec 32 := Scalar.addi v969 c0_i32_924
  let c0_i32_934 : BitVec 32 := 0#32
  ![0, v970.toNat, 0]
def k0_off10 (d0 : Dev nD) (c0_i32_1124 : BitVec 32) : Fin 3 → Nat :=
  let c1_i32_1132 : BitVec 32 := 1#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c256_i32_1123 : BitVec 32 := 256#32
  let v1161 : BitVec 32 := Scalar.muli v7 c256_i32_1123
  let v1162 : BitVec 32 := Scalar.addi v1161 c0_i32_1124
  let c0_i32_1134 : BitVec 32 := 0#32
  ![1, v1162.toNat, 0]
abbrev stage0_0 : Fin 1 → Memref sig .tc .vmem S2x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x1024x32x64 : Shape := ⟨4, ![2, 1024, 32, 64]⟩
abbrev S2048x2048 : Shape := ⟨2, ![2048, 2048]⟩
abbrev S2x1024x2048 : Shape := ⟨3, ![2, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x32x64, .f32⟩
  | .hbm, ⟨1, _⟩ => ⟨S2048x2048, .f32⟩
  | .hbm, ⟨2, _⟩ => ⟨S2x1024x2048, .f32⟩
  | .hbm, ⟨3, _⟩ => ⟨S2x1024x2048, .f32⟩
  | _, _ => ⟨S2x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/- The kernel body as a structured program: the steps of each phase over a symbolic chunk number, folded over the
   list of chunks, and the theorem that the printed body is that program. -/
module

public import proofs.«01_k».proof.Proof.Gen.KernelIdeal
public import proofs.«01_k».proof.Proof.Gen.KernelIdeal.Skeleton

@[expose] public section

noncomputable section

namespace Cert.KernelIdeal.Own

open Idealize.ShloMosaic Idealize.ShloMosaic.TcCoe
open Idealize.SL.Sem Cert.KernelIdeal.Gen

variable {F : FTy → Type} [FloatOps F]

/-- Programs of the kernel body. -/
abbrev KProg (F : FTy → Type) [FloatOps F] (α : Type) : Type 1 := Prog (TpuEff nD τ sig (Elt F) Λ₀ .tc) α

/-- Where chunk `i` starts in a scratch buffer: batch `i / 8`, rows from `32 * (i % 8)`. -/
def ckOff (i : Fin 16) : Fin 3 → Nat := ![i.val / 8, 32 * (i.val % 8), 0]

theorem ckOff_inb : ∀ (i : Fin 16) (a : Fin 3), ckOff i a + S1x32x2048.size a ≤ S2x256x2048.size a := by decide

/-- The rectangle of chunk `i` in a scratch buffer. -/
abbrev ckRect (i : Fin 16) : Rect S2x256x2048 := Rect.unit (s := S2x256x2048) (ckOff i) S1x32x2048.size (ckOff_inb i)

/-- Chunk `i` of a scratch buffer, as the copies name it. -/
abbrev ck (M : Memref sig .tc .vmem S2x256x2048 .f32) (i : Fin 16) : Memref sig .tc .vmem S32x2048 .f32 :=
  (M.slice (ckRect i) (fun _ => rfl)).squeeze S32x2048 squeezes_S1x32x2048_S32x2048

/-- Where the rows of the `k`-th copy into the result start, as the kernel computes it. -/
def outOff (d : Dev nD) (k : Fin 32) : Fin 3 → Nat :=
  if k.val < 8 then k0_off7 d (BitVec.ofNat 32 (32 * (k.val % 8)))
  else if k.val < 16 then k0_off8 d (BitVec.ofNat 32 (32 * (k.val % 8)))
  else if k.val < 24 then k0_off9 d (BitVec.ofNat 32 (32 * (k.val % 8)))
  else k0_off10 d (BitVec.ofNat 32 (32 * (k.val % 8)))

theorem outOff_inb : ∀ (d : Dev nD) (k : Fin 32) (a : Fin 3), outOff d k a + S1x32x2048.size a ≤ S2x512x2048.size a := by
  decide +kernel

/-- The rectangle of the `k`-th copy into the result. -/
abbrev outRect (d : Dev nD) (k : Fin 32) : Rect S2x512x2048 :=
  Rect.unit (s := S2x512x2048) (outOff d k) S1x32x2048.size (outOff_inb d k)

/-- The rows of the result the `k`-th copy fills. -/
abbrev outCk (d : Dev nD) (k : Fin 32) : Memref sig .tc .hbm S32x2048 .f32 :=
  ((Memref.whole main_v2).slice (outRect d k) (fun _ => rfl)).squeeze S32x2048 squeezes_S1x32x2048_S32x2048

theorem sem16_inb : ∀ (i : Fin 16) (a : Fin 1), (![i.val] : Fin 1 → Nat) a + S1.size a ≤ S16.size a := by decide
theorem sem2_inb : ∀ (k : Fin 32) (a : Fin 1), (![k.val % 2] : Fin 1 → Nat) a + S1.size a ≤ S2.size a := by decide

/-- The semaphore of chunk `i` in an array of sixteen. -/
abbrev sem16 (A : DmaSems sig S16) (i : Fin 16) : DmaSem sig :=
  ((A.slice (Rect.unit (s := S16) ![i.val] S1.size (sem16_inb i))).squeeze S_ squeezes_S1_S_).sem
/-- The semaphore of the `k`-th copy into the result: the two are used in turn. -/
abbrev stSem (k : Fin 32) : DmaSem sig :=
  ((cc0_scratch9.slice (Rect.unit (s := S2) ![k.val % 2] S1.size (sem2_inb k))).squeeze S_ squeezes_S1_S_).sem

abbrev ysM : Memref sig .tc .vmem S2x256x2048 .f32 := Memref.whole cc0_scratch0
abbrev yrM : Memref sig .tc .vmem S2x256x2048 .f32 := Memref.whole cc0_scratch1
abbrev xsM : Memref sig .tc .vmem S2x256x2048 .f32 := Memref.whole cc0_scratch2
abbrev xrM : Memref sig .tc .vmem S2x256x2048 .f32 := Memref.whole cc0_scratch3
abbrev owM : Memref sig .tc .vmem S2x256x2048 .f32 := Memref.whole cc0_scratch4
/-- The send and receive semaphores of the two exchanges. -/
abbrev ysS (i : Fin 16) : DmaSem sig := sem16 cc0_scratch5 i
abbrev yrS (i : Fin 16) : DmaSem sig := sem16 cc0_scratch6 i
abbrev xsS (i : Fin 16) : DmaSem sig := sem16 cc0_scratch7 i
abbrev xrS (i : Fin 16) : DmaSem sig := sem16 cc0_scratch8 i

/-- The device with the other second mesh coordinate. -/
abbrev yp (d : Dev nD) : Dev nD := ⟨k0_dev3 d, k0_dev3_lt d⟩
/-- The device with the other first mesh coordinate. -/
abbrev xp (d : Dev nD) : Dev nD := ⟨k0_dev19 d, k0_dev19_lt d⟩

/-- Copy chunk `i` of the first scratch buffer to the `y` peer. -/
def ySend (d : Dev nD) (i : Fin 16) : KProg F PUnit :=
  Prog.lift (.enqueueDma (ck ysM i) (.remote (Dev.tc (yp d)) (ck yrM i) (.dma (ysS i))) (.dma (yrS i))
    ((View.wordExact_bits rfl).reshape _ _) ((View.wordExact_bits rfl).reshape _ _) ⟨⟨rfl, Or.inl rfl⟩, trivial⟩)

/-- Copy chunk `i` of the third scratch buffer to the `x` peer. -/
def xSend (d : Dev nD) (i : Fin 16) : KProg F PUnit :=
  Prog.lift (.enqueueDma (ck xsM i) (.remote (Dev.tc (xp d)) (ck xrM i) (.dma (xsS i))) (.dma (xrS i))
    ((View.wordExact_bits rfl).reshape _ _) ((View.wordExact_bits rfl).reshape _ _) ⟨⟨rfl, Or.inl rfl⟩, trivial⟩)

/-- Wait until a chunk copied on semaphore `s` has arrived; the wait names the copy's two ends. -/
def ckWait (s : DmaSem sig) (src dst : Memref sig .tc .vmem S2x256x2048 .f32) (i : Fin 16) : KProg F PUnit :=
  Prog.lift (.waitDma2 s (ck src i) (ck dst i) ((View.wordExact_bits rfl).reshape _ _) ((View.wordExact_bits rfl).reshape _ _))

/-- What the `k`-th copy into the result reads: the own sums first, then the chunks the `x` peer sent. -/
def stSrc (k : Fin 32) : Memref sig .tc .vmem S2x256x2048 .f32 := if k.val < 16 then xsM else xrM

/-- The chunk the `k`-th copy into the result moves. -/
def stIx (k : Fin 32) : Fin 16 := ⟨k.val % 16, Nat.mod_lt _ (by decide)⟩

/-- Start the `k`-th copy into the result. -/
def stStart (d : Dev nD) (k : Fin 32) : KProg F PUnit :=
  Prog.lift (.enqueueDma (ck (stSrc k) (stIx k)) (.here (outCk d k)) (.dma (stSem k))
    ((View.wordExact_bits rfl).reshape _ _) ((View.wordExact_bits rfl).reshape _ _) ⟨Or.inl rfl, trivial⟩)

/-- Wait for the `k`-th copy into the result. -/
def stWait (d : Dev nD) (k : Fin 32) : KProg F PUnit :=
  Prog.lift (.waitDma2 (stSem k) (ck (stSrc k) (stIx k)) (outCk d k)
    ((View.wordExact_bits rfl).reshape _ _) ((View.wordExact_bits rfl).reshape _ _))

/-- Run a step for each entry of a list. -/
def each {ι : Type} (f : ι → KProg F PUnit) : List ι → KProg F PUnit
  | [] => pure ⟨⟩
  | i :: l => do f i; each f l

/-- The rows batch `b` of the first scratch buffer's chunk `0` is computed from, and those of its other chunks. -/
def offA (d : Dev nD) (b : Fin 2) : Fin 3 → Nat := if b.val < 1 then k0_off1 d else k0_off3 d
def offB (d : Dev nD) (b : Fin 2) : Fin 3 → Nat := if b.val < 1 then k0_off2 d else k0_off4 d
/-- The rows batch `b` of the own products is computed from. -/
def offC (d : Dev nD) (b : Fin 2) : Fin 3 → Nat := if b.val < 1 then k0_off5 d else k0_off6 d

theorem offA_inb : ∀ (d : Dev nD) (b : Fin 2) (a : Fin 3), offA d b a + S1x32x1024.size a ≤ S2x1024x1024.size a := by
  decide +kernel
theorem offB_inb : ∀ (d : Dev nD) (b : Fin 2) (a : Fin 3), offB d b a + S1x224x1024.size a ≤ S2x1024x1024.size a := by
  decide +kernel
theorem offC_inb : ∀ (d : Dev nD) (b : Fin 2) (a : Fin 3), offC d b a + S1x256x1024.size a ≤ S2x1024x1024.size a := by
  decide +kernel
theorem dstA_inb : ∀ (b : Fin 2) (a : Fin 3), (![b.val, 0, 0] : Fin 3 → Nat) a + S1x32x2048.size a ≤ S2x256x2048.size a := by
  decide
theorem dstB_inb : ∀ (b : Fin 2) (a : Fin 3), (![b.val, 32, 0] : Fin 3 → Nat) a + S1x224x2048.size a ≤ S2x256x2048.size a := by
  decide
theorem dstC_inb : ∀ (b : Fin 2) (a : Fin 3), (![b.val, 0, 0] : Fin 3 → Nat) a + S1x256x2048.size a ≤ S2x256x2048.size a := by
  decide

/-- The rectangles of the products: the rows of `O` read and the block filled. -/
abbrev rcA (d : Dev nD) (b : Fin 2) : Rect S2x1024x1024 := Rect.unit (s := S2x1024x1024) (offA d b) S1x32x1024.size (offA_inb d b)
abbrev rcB (d : Dev nD) (b : Fin 2) : Rect S2x1024x1024 := Rect.unit (s := S2x1024x1024) (offB d b) S1x224x1024.size (offB_inb d b)
abbrev rcC (d : Dev nD) (b : Fin 2) : Rect S2x1024x1024 := Rect.unit (s := S2x1024x1024) (offC d b) S1x256x1024.size (offC_inb d b)
abbrev rdA (b : Fin 2) : Rect S2x256x2048 := Rect.unit (s := S2x256x2048) ![b.val, 0, 0] S1x32x2048.size (dstA_inb b)
abbrev rdB (b : Fin 2) : Rect S2x256x2048 := Rect.unit (s := S2x256x2048) ![b.val, 32, 0] S1x224x2048.size (dstB_inb b)
abbrev rdC (b : Fin 2) : Rect S2x256x2048 := Rect.unit (s := S2x256x2048) ![b.val, 0, 0] S1x256x2048.size (dstC_inb b)

/-- Compute chunk `0` of batch `b` of the first scratch buffer. -/
def fillA (A : Memref sig .tc .vmem S2x1024x1024 .f32) (w : FVec F S1024x2048 .f32) (d : Dev nD) (b : Fin 2) : KProg F PUnit := do
  let v : Vec F S1x32x1024 .f32 ← Prog.lift (.load A (rcA d b).toLoadRect (View.loadsAt_vmem h_S1x32x1024))
  let _x : Vec F S1x32x2048 .f32 ← Prog.lift (.load ysM (rdA b).toLoadRect (View.loadsAt_vmem h_S1x32x2048))
  Prog.lift (.store ysM (rdA b) (k0_pay4 w v) Finset.univ (View.stores_vmem_bits_univ h_S1x32x2048 rfl) (.inl rfl))

/-- Compute the other chunks of batch `b` of the first scratch buffer. -/
def fillB (A : Memref sig .tc .vmem S2x1024x1024 .f32) (w : FVec F S1024x2048 .f32) (d : Dev nD) (b : Fin 2) : KProg F PUnit := do
  let v : Vec F S1x224x1024 .f32 ← Prog.lift (.load A (rcB d b).toLoadRect (View.loadsAt_vmem h_S1x224x1024))
  let _x : Vec F S1x224x2048 .f32 ← Prog.lift (.load ysM (rdB b).toLoadRect (View.loadsAt_vmem h_S1x224x2048))
  Prog.lift (.store ysM (rdB b) (k0_pay3 w v) Finset.univ (View.stores_vmem_bits_univ h_S1x224x2048 rfl) (.inl rfl))

/-- Compute batch `b` of the own products. -/
def fillC (A : Memref sig .tc .vmem S2x1024x1024 .f32) (w : FVec F S1024x2048 .f32) (d : Dev nD) (b : Fin 2) : KProg F PUnit := do
  let v : Vec F S1x256x1024 .f32 ← Prog.lift (.load A (rcC d b).toLoadRect (View.loadsAt_vmem h_S1x256x1024))
  let _x : Vec F S1x256x2048 .f32 ← Prog.lift (.load owM (rdC b).toLoadRect (View.loadsAt_vmem h_S1x256x2048))
  Prog.lift (.store owM (rdC b) (k0_pay6 w v) Finset.univ (View.stores_vmem_bits_univ h_S1x256x2048 rfl) (.inl rfl))

/-- Add the received chunk `i` to the own products. -/
def addCk (i : Fin 16) : KProg F PUnit := do
  let v : Vec F S1x32x2048 .f32 ← Prog.lift (.load owM (ckRect i).toLoadRect (View.loadsAt_vmem h_S1x32x2048))
  let w : Vec F S1x32x2048 .f32 ← Prog.lift (.load yrM (ckRect i).toLoadRect (View.loadsAt_vmem h_S1x32x2048))
  let _x : Vec F S1x32x2048 .f32 ← Prog.lift (.load xsM (ckRect i).toLoadRect (View.loadsAt_vmem h_S1x32x2048))
  Prog.lift (.store xsM (ckRect i) (k0_pay8 v w) Finset.univ (View.stores_vmem_bits_univ h_S1x32x2048 rfl) (.inl rfl))

/-- Wait for the copy into the result two before the `k`-th, when there is one. -/
def stPrev (d : Dev nD) (k : Fin 32) : KProg F PUnit :=
  if 2 ≤ k.val then stWait d ⟨k.val - 2, Nat.lt_of_le_of_lt (Nat.sub_le _ _) k.isLt⟩ else pure ⟨⟩

/-- Before the `k`-th copy into the result: its chunk is summed and sent, or received. -/
def stReady (d : Dev nD) (k : Fin 32) : KProg F PUnit :=
  if k.val < 16 then do ckWait (yrS (stIx k)) ysM yrM (stIx k); addCk (stIx k); xSend d (stIx k)
  else ckWait (xrS (stIx k)) xsM xrM (stIx k)

/-- The step of the `k`-th copy into the result. -/
def stStep (d : Dev nD) (k : Fin 32) : KProg F PUnit := do stReady d k; stPrev d k; stStart d k

/-- The last step for chunk `i`: both of its sends have left. -/
def sentCk (i : Fin 16) : KProg F PUnit := do ckWait (ysS i) yrM ysM i; ckWait (xsS i) xrM xsM i

/-- The handshake with the two peers. -/
def shake (d : Dev nD) : KProg F PUnit := do
  semSignalWord (⟨k0_dev1 d, k0_dev1_lt d⟩ : Dev nD) ((SemArray.scalar (sig.barrier 0 rfl) : Sems sig S_)).sem 1#32
  semSignalWord (⟨k0_dev2 d, k0_dev2_lt d⟩ : Dev nD) ((SemArray.scalar (sig.barrier 0 rfl) : Sems sig S_)).sem 1#32
  semWaitWord ((SemArray.scalar (sig.barrier 0 rfl) : Sems sig S_)).sem 2#32

/-- The products, and the sends of the first exchange. -/
def phaseY (A : Memref sig .tc .vmem S2x1024x1024 .f32) (w : FVec F S1024x2048 .f32) (d : Dev nD) : KProg F PUnit := do
  fillA A w d 0; ySend d 0; fillB A w d 0; each (ySend d) [1, 2, 3, 4, 5, 6, 7]
  fillA A w d 1; ySend d 8; fillB A w d 1; each (ySend d) [9, 10, 11, 12, 13, 14, 15]
  fillC A w d 0; fillC A w d 1

/-- The kernel body on device `d`. -/
def kbody (A : Memref sig .tc .vmem S2x1024x1024 .f32) (W : Memref sig .tc .vmem S1024x2048 .f32) (d : Dev nD) : KProg F PUnit := do
  shake d
  let w : Vec F S1024x2048 .f32 ← Prog.lift (.load W (Rect.unit (s := S1024x2048) ![0, 0] S1024x2048.size inb_S1024x2048_S1024x2048_0_0).toLoadRect (View.loadsAt_vmem h_S1024x2048))
  phaseY A (k0_pay1 w) d
  each (stStep d) [0, 1, 2, 3, 4, 5, 6, 7, 8, 9, 10, 11, 12, 13, 14, 15, 16, 17, 18, 19, 20, 21, 22, 23, 24, 25, 26, 27, 28, 29, 30, 31]
  stWait d 30; stWait d 31
  each sentCk [0, 1, 2, 3, 4, 5, 6, 7, 8, 9, 10, 11, 12, 13, 14, 15]

end Cert.KernelIdeal.Own
end
-- ==== Proof.Vals.lean ====
/- What each buffer of the kernel holds, as functions of the arguments' blocks on the devices, and what the kernel's
   stores and copies write, read at an index. -/
module

public import proofs.«01_k».proof.Proof.Prog
public import Idealize.ShloMosaic.Lib.ValueIdxCore
public import Idealize.ShloMosaic.Lib.Pipeline.ValueKit.Geometry
public import Idealize.ShloMosaic.Lib.Memref

@[expose] public section

noncomputable section

namespace Cert.KernelIdeal.Own

open Idealize.ShloMosaic Idealize.ShloMosaic.TcCoe Idealize.ShloMosaic.ValueIdx Idealize.ShloMosaic.ValueKit
open Idealize.SL.Sem Cert.KernelIdeal.Gen

variable {F : FTy → Type} [FloatOps F]

/-- The staged arguments. -/
abbrev oM : Memref sig .tc .vmem S2x1024x1024 .f32 := Memref.whole cc0_stg0_0
abbrev wM : Memref sig .tc .vmem S1024x2048 .f32 := Memref.whole cc0_stg1_0

/-! ## The devices -/

theorem yp_val (d : Dev nD) : (yp d).val = (2 * (d.val / 2) + 1) - d.val % 2 := k0_dev3_eq d
theorem xp_val (d : Dev nD) : (xp d).val = (d.val % 2 + 2) - 2 * (d.val / 2) := k0_dev19_eq d
theorem dev_lt (d : Dev nD) : d.val < 4 := d.isLt
theorem yp_yp (d : Dev nD) : yp (yp d) = d := by
  have h := dev_lt d; apply Fin.ext; rw [yp_val, yp_val]; omega
theorem xp_xp (d : Dev nD) : xp (xp d) = d := by
  have h := dev_lt d; apply Fin.ext; rw [xp_val, xp_val]; omega
theorem dev1_eq (d : Dev nD) : (⟨k0_dev1 d, k0_dev1_lt d⟩ : Dev nD) = yp d := by
  apply Fin.ext; rw [yp_val]; exact k0_dev1_eq d
theorem dev2_eq (d : Dev nD) : (⟨k0_dev2 d, k0_dev2_lt d⟩ : Dev nD) = xp d := by
  apply Fin.ext; rw [xp_val]; exact k0_dev2_eq d
theorem yp_ne_xp (d : Dev nD) : yp d ≠ xp d := by
  have h := dev_lt d; intro e; have := congrArg Fin.val e; rw [yp_val, xp_val] at this; omega

/-! ## The blocks of the buffers -/

/-- The chunk an index of a scratch buffer lies in. -/
def ckOf (p : S2x256x2048.Idx) : Fin 16 :=
  ⟨8 * (p 0).val + (p 1).val / 32, by have h0 : (p 0).val < 2 := (p 0).isLt; have h1 : (p 1).val < 256 := (p 1).isLt; omega⟩
theorem ckOf_val (p : S2x256x2048.Idx) : (ckOf p).val = 8 * (p 0).val + (p 1).val / 32 := rfl

/-- The indices of the chunks in `s`. -/
def cks (s : Finset (Fin 16)) : Finset S2x256x2048.Idx := Finset.univ.filter fun p => ckOf p ∈ s
theorem mem_cks {s : Finset (Fin 16)} {p : S2x256x2048.Idx} : p ∈ cks s ↔ ckOf p ∈ s := by
  simp only [cks, Finset.mem_filter, Finset.mem_univ, true_and]

theorem lt0 (p : S2x256x2048.Idx) : (p 0).val < 2 := (p 0).isLt
theorem lt1 (p : S2x256x2048.Idx) : (p 1).val < 256 := (p 1).isLt
theorem lt2 (p : S2x256x2048.Idx) : (p 2).val < 2048 := (p 2).isLt

/-- A unit rectangle of a scratch buffer, read on the coordinates. -/
theorem mem_unit3 {n0 n1 n2 : Nat} {off size : Fin 3 → Nat} {inb} {p : (⟨3, ![n0, n1, n2]⟩ : Shape).Idx} :
    p ∈ (Rect.unit (s := ⟨3, ![n0, n1, n2]⟩) off size inb).set ↔
      (off 0 ≤ (p 0).val ∧ (p 0).val < off 0 + size 0) ∧ (off 1 ≤ (p 1).val ∧ (p 1).val < off 1 + size 1)
        ∧ (off 2 ≤ (p 2).val ∧ (p 2).val < off 2 + size 2) := by
  rw [Rect.mem_set_unit]
  exact ⟨fun h => ⟨h 0, h 1, h 2⟩, fun h a => by
    match a with
    | ⟨0, _⟩ => exact h.1
    | ⟨1, _⟩ => exact h.2.1
    | ⟨2, _⟩ => exact h.2.2⟩

theorem ckRect_set (i : Fin 16) : (ckRect i).set = cks {i} := by
  ext p
  have h0 := lt0 p; have h1 := lt1 p; have h2 := lt2 p
  rw [mem_cks, Finset.mem_singleton, ← Fin.val_inj, ckOf_val]
  refine mem_unit3.trans ?_
  simp only [ckOff, S1x32x2048, Matrix.cons_val]
  omega

theorem rdA_set (b : Fin 2) : (rdA b).set = cks {⟨8 * b.val, by omega⟩} := by
  ext p
  have h0 := lt0 p; have h1 := lt1 p; have h2 := lt2 p
  rw [mem_cks, Finset.mem_singleton, ← Fin.val_inj, ckOf_val]
  refine mem_unit3.trans ?_
  simp only [S1x32x2048, Matrix.cons_val]
  omega

/-- The chunks of batch `b` after the first. -/
def restCk (b : Fin 2) : Finset (Fin 16) := Finset.univ.filter fun i => 8 * b.val < i.val ∧ i.val < 8 * b.val + 8
/-- The chunks of batch `b`. -/
def batchCk (b : Fin 2) : Finset (Fin 16) := Finset.univ.filter fun i => 8 * b.val ≤ i.val ∧ i.val < 8 * b.val + 8

theorem rdB_set (b : Fin 2) : (rdB b).set = cks (restCk b) := by
  ext p
  have h0 := lt0 p; have h1 := lt1 p; have h2 := lt2 p
  rw [mem_cks]
  refine mem_unit3.trans ?_
  simp only [S1x224x2048, Matrix.cons_val, restCk, Finset.mem_filter, Finset.mem_univ, true_and, ckOf_val]
  omega

theorem rdC_set (b : Fin 2) : (rdC b).set = cks (batchCk b) := by
  ext p
  have h0 := lt0 p; have h1 := lt1 p; have h2 := lt2 p
  rw [mem_cks]
  refine mem_unit3.trans ?_
  simp only [S1x256x2048, Matrix.cons_val, batchCk, Finset.mem_filter, Finset.mem_univ, true_and, ckOf_val]
  omega

/-- Which of the copies into the result fills an index of it, on device `d`. -/
def outOf (d : Dev nD) (p : S2x512x2048.Idx) : Fin 32 :=
  ⟨(if (p 1).val / 256 = d.val / 2 then 0 else 16) + 8 * (p 0).val + (p 1).val % 256 / 32, by
    have h0 : (p 0).val < 2 := (p 0).isLt; split <;> omega⟩
theorem outOf_val (d : Dev nD) (p : S2x512x2048.Idx) :
    (outOf d p).val = (if (p 1).val / 256 = d.val / 2 then 0 else 16) + 8 * (p 0).val + (p 1).val % 256 / 32 := rfl
/-- The indices of the result the `k`-th copy fills. -/
def outs (d : Dev nD) (k : Fin 32) : Finset S2x512x2048.Idx := Finset.univ.filter fun p => outOf d p = k

theorem outOff_eq : ∀ (d : Dev nD) (k : Fin 32), outOff d k =
    ![k.val / 8 % 2, (if k.val < 16 then 256 * (d.val / 2) else 256 - 256 * (d.val / 2)) + 32 * (k.val % 8), 0] := by decide +kernel

theorem outRect_set (d : Dev nD) (k : Fin 32) : (outRect d k).set = outs d k := by
  ext p
  have h0 : (p 0).val < 2 := (p 0).isLt
  have h1 : (p 1).val < 512 := (p 1).isLt
  have h2 : (p 2).val < 2048 := (p 2).isLt
  have hd := dev_lt d; have hk := k.isLt
  rw [outs, Finset.mem_filter, ← Fin.val_inj, outOf_val]
  refine mem_unit3.trans ?_
  rw [outOff_eq]
  simp only [S1x32x2048, Matrix.cons_val, Finset.mem_univ, true_and]
  split <;> split <;> omega

theorem ysCk_set (i : Fin 16) : (ck ysM i).view.set = cks {i} := by
  show (((View.whole cc0_scratch0).slice (ckRect i)).reshape S32x2048 _).set = _
  rw [View.set_reshape, View.set_slice_whole]; exact ckRect_set i
theorem yrCk_set (i : Fin 16) : (ck yrM i).view.set = cks {i} := by
  show (((View.whole cc0_scratch1).slice (ckRect i)).reshape S32x2048 _).set = _
  rw [View.set_reshape, View.set_slice_whole]; exact ckRect_set i
theorem xsCk_set (i : Fin 16) : (ck xsM i).view.set = cks {i} := by
  show (((View.whole cc0_scratch2).slice (ckRect i)).reshape S32x2048 _).set = _
  rw [View.set_reshape, View.set_slice_whole]; exact ckRect_set i
theorem xrCk_set (i : Fin 16) : (ck xrM i).view.set = cks {i} := by
  show (((View.whole cc0_scratch3).slice (ckRect i)).reshape S32x2048 _).set = _
  rw [View.set_reshape, View.set_slice_whole]; exact ckRect_set i
theorem outCk_set (d : Dev nD) (k : Fin 32) : (outCk d k).view.set = outs d k := by
  show (((View.whole main_v2).slice (outRect d k)).reshape S32x2048 _).set = _
  rw [View.set_reshape, View.set_slice_whole]; exact outRect_set d k

/-! ## The contents -/

/-- Contents of a scratch buffer, and of the result. -/
abbrev Buf3 (F : FTy → Type) [FloatOps F] : Type := S2x256x2048.Idx → Elt F .f32

section Contents

-- the staged arguments on each device
variable (O : Dev nD → S2x1024x1024.Idx → Elt F .f32) (Wo : Dev nD → S1024x2048.Idx → Elt F .f32)

/-- The first scratch buffer on device `d`: the products sent to the `y` peer. -/
def ysV (d : Dev nD) : Buf3 F := fun p =>
  if h : (p 1).val < 32 then
    k0_pay4 (k0_pay1 (Wo d)) (fun j : S1x32x1024.Idx => O d ((rcA d (p 0)).emb j)) (ix3 (n0 := 1) (n1 := 32) (n2 := 2048) 0 ⟨(p 1).val, h⟩ (p 2))
  else
    k0_pay3 (k0_pay1 (Wo d)) (fun j : S1x224x1024.Idx => O d ((rcB d (p 0)).emb j))
      (ix3 (n0 := 1) (n1 := 224) (n2 := 2048) 0 ⟨(p 1).val - 32, by have := lt1 p; omega⟩ (p 2))

/-- The own products of device `d`. -/
def owV (d : Dev nD) : Buf3 F := fun p =>
  k0_pay6 (k0_pay1 (Wo d)) (fun j : S1x256x1024.Idx => O d ((rcC d (p 0)).emb j)) (ix3 (n0 := 1) (n1 := 256) (n2 := 2048) 0 (p 1) (p 2))

/-- The sums of device `d`: its own products and those the `y` peer sent. -/
def xsV (d : Dev nD) : Buf3 F := fun p => FloatOps.addf (owV O Wo d p) (ysV O Wo (yp d) p)

/-- The row of a scratch buffer a row of the result comes from. -/
def rowOf (p : S2x512x2048.Idx) : S2x256x2048.Idx :=
  ix3 (n0 := 2) (n1 := 256) (n2 := 2048) (p 0) ⟨(p 1).val % 256, Nat.mod_lt _ (by decide)⟩ (p 2)

/-- The result on device `d`: its own sums in its rows, the `x` peer's in the others. -/
def outV (d : Dev nD) : S2x512x2048.Idx → Elt F .f32 := fun p =>
  xsV O Wo (if (p 1).val / 256 = d.val / 2 then d else xp d) (rowOf p)

end Contents

/-! ## The stores -/

/-- The index of a rank three block, placed in a whole buffer of rank three by a unit rectangle. -/
theorem acc_emb (b : Ref sig .tc) (off size : Fin b.ty.shape.rank → Nat) (inb) (j : (Rect.unit off size inb).shape.Idx) (p : b.ty.shape.Idx)
    (h : ∀ a, off a + (j a).val = (p a).val) : ((Memref.whole b).access (Rect.unit off size inb)).emb j = p :=
  funext fun a => Fin.ext ((view_emb_slice_whole_unit_val b off size inb j a).trans (h a))

/-- A statement about three axes, axis by axis. -/
theorem axes3 {P : Fin 3 → Prop} (h0 : P 0) (h1 : P 1) (h2 : P 2) : ∀ a, P a := fun a => by
  match a with
  | ⟨0, _⟩ => exact h0
  | ⟨1, _⟩ => exact h1
  | ⟨2, _⟩ => exact h2

section Stores

variable (O : Dev nD → S2x1024x1024.Idx → Elt F .f32) (Wo : Dev nD → S1024x2048.Idx → Elt F .f32) (d : Dev nD)

/-- The store of the first chunk of a batch writes its part of `ysV`. -/
theorem fillA_val (b : Fin 2) (f : Buf3 F) (p : S2x256x2048.Idx) (hp : p ∈ cks {⟨8 * b.val, by omega⟩}) :
    (ysM.access (rdA b)).write (Elt F) f (k0_pay4 (k0_pay1 (Wo d)) (oM.view.readAt (Elt F) (rcA d b).toLoadRect (O d))) Finset.univ p
      = ysV O Wo d p := by
  rw [mem_cks, Finset.mem_singleton, ← Fin.val_inj, ckOf_val] at hp
  have h0 := lt0 p; have h1 := lt1 p
  have hp0 : p 0 = b := Fin.ext (by dsimp only at hp; omega)
  have hp1 : (p 1).val < 32 := by dsimp only at hp; omega
  subst hp0
  have e : (ysM.access (rdA (p 0))).emb (ix3 (n0 := 1) (n1 := 32) (n2 := 2048) 0 ⟨(p 1).val, hp1⟩ (p 2)) = p :=
    acc_emb cc0_scratch0 _ _ _ _ p (axes3 (Nat.add_zero _) (Nat.zero_add _) (Nat.zero_add _))
  rw [ysV, dif_pos hp1]
  conv_lhs => rw [← e]
  exact View.write_emb_of_mem _ _ (Finset.mem_univ _)

/-- The store of the other chunks of a batch writes its part of `ysV`. -/
theorem fillB_val (b : Fin 2) (f : Buf3 F) (p : S2x256x2048.Idx) (hp : p ∈ cks (restCk b)) :
    (ysM.access (rdB b)).write (Elt F) f (k0_pay3 (k0_pay1 (Wo d)) (oM.view.readAt (Elt F) (rcB d b).toLoadRect (O d))) Finset.univ p
      = ysV O Wo d p := by
  simp only [mem_cks, restCk, Finset.mem_filter, Finset.mem_univ, true_and, ckOf_val] at hp
  have h0 := lt0 p; have h1 := lt1 p
  have hp0 : p 0 = b := Fin.ext (by omega)
  have hp1 : ¬ (p 1).val < 32 := by omega
  subst hp0
  have e : (ysM.access (rdB (p 0))).emb (ix3 (n0 := 1) (n1 := 224) (n2 := 2048) 0 ⟨(p 1).val - 32, by omega⟩ (p 2)) = p :=
    acc_emb cc0_scratch0 _ _ _ _ p (axes3 (Nat.add_zero _) (show 32 + ((p 1).val - 32) = (p 1).val by omega) (Nat.zero_add _))
  rw [ysV, dif_neg hp1]
  conv_lhs => rw [← e]
  exact View.write_emb_of_mem _ _ (Finset.mem_univ _)

/-- The store of the own products of a batch writes its part of `owV`. -/
theorem fillC_val (b : Fin 2) (f : Buf3 F) (p : S2x256x2048.Idx) (hp : p ∈ cks (batchCk b)) :
    (owM.access (rdC b)).write (Elt F) f (k0_pay6 (k0_pay1 (Wo d)) (oM.view.readAt (Elt F) (rcC d b).toLoadRect (O d))) Finset.univ p
      = owV O Wo d p := by
  simp only [mem_cks, batchCk, Finset.mem_filter, Finset.mem_univ, true_and, ckOf_val] at hp
  have h0 := lt0 p; have h1 := lt1 p
  have hp0 : p 0 = b := Fin.ext (by omega)
  subst hp0
  have e : (owM.access (rdC (p 0))).emb (ix3 (n0 := 1) (n1 := 256) (n2 := 2048) 0 (p 1) (p 2)) = p :=
    acc_emb cc0_scratch4 _ _ _ _ p (axes3 (Nat.add_zero _) (Nat.zero_add _) (Nat.zero_add _))
  rw [owV]
  conv_lhs => rw [← e]
  exact View.write_emb_of_mem _ _ (Finset.mem_univ _)

/-- An elementwise operation between two casts to a shape of as many elements, and back, is the operation at the index. -/
theorem pay8_apply (v w : Vec F S1x32x2048 .f32) (j : S1x32x2048.Idx) : k0_pay8 v w j = FloatOps.addf (v j) (w j) := by
  show FloatOps.addf (v _) (w _) = _
  have e : Shape.reshapeEquiv shapeCasts_S1x32x2048_S32x2048 (Shape.reshapeEquiv shapeCasts_S32x2048_S1x32x2048 j) = j := by
    simp [Shape.reshapeEquiv]
  rw [e]

/-- The store of a chunk's sums writes its part of `xsV`. -/
theorem addCk_val (i : Fin 16) (f : Buf3 F) (p : S2x256x2048.Idx) (hp : p ∈ cks {i}) :
    (xsM.access (ckRect i)).write (Elt F) f
        (k0_pay8 (owM.view.readAt (Elt F) (ckRect i).toLoadRect (owV O Wo d)) (yrM.view.readAt (Elt F) (ckRect i).toLoadRect (ysV O Wo (yp d))))
        Finset.univ p = xsV O Wo d p := by
  rw [mem_cks, Finset.mem_singleton, ← Fin.val_inj, ckOf_val] at hp
  have h0 := lt0 p; have h1 := lt1 p
  have e : (ckRect i).emb (ix3 (n0 := 1) (n1 := 32) (n2 := 2048) 0 ⟨(p 1).val % 32, Nat.mod_lt _ (by decide)⟩ (p 2)) = p :=
    acc_emb cc0_scratch2 (ckOff i) _ (ckOff_inb i) _ p
      (axes3 (show i.val / 8 + 0 = (p 0).val by omega) (show 32 * (i.val % 8) + (p 1).val % 32 = (p 1).val by omega) (Nat.zero_add _))
  conv_lhs => rw [← e]
  refine (View.write_emb_of_mem (v := xsM.access (ckRect i)) f _ (Finset.mem_univ _)).trans ?_
  refine (pay8_apply _ _ _).trans ?_
  show FloatOps.addf (owV O Wo d ((ckRect i).emb _)) (ysV O Wo (yp d) ((ckRect i).emb _)) = _
  rw [e]; rfl

/-! ## The copies -/

/-- A chunk copied between two of the scratch buffers arrives at the same indices. -/
theorem ySend_val (i : Fin 16) (f g : Buf3 F) (p : S2x256x2048.Idx) (hp : p ∈ cks {i}) :
    (ck yrM i).view.write (Elt F) f ((ck ysM i).view.read (Elt F) g) Finset.univ p = g p := by
  rw [← yrCk_set, View.set, Finset.mem_map] at hp
  obtain ⟨j, -, rfl⟩ := hp
  exact View.write_emb_of_mem _ _ (Finset.mem_univ _)
theorem xSend_val (i : Fin 16) (f g : Buf3 F) (p : S2x256x2048.Idx) (hp : p ∈ cks {i}) :
    (ck xrM i).view.write (Elt F) f ((ck xsM i).view.read (Elt F) g) Finset.univ p = g p := by
  rw [← xrCk_set, View.set, Finset.mem_map] at hp
  obtain ⟨j, -, rfl⟩ := hp
  exact View.write_emb_of_mem _ _ (Finset.mem_univ _)

/-- The row of a scratch buffer the `k`-th copy into the result puts at an index. -/
theorem outRow (k : Fin 32) (j : S1x32x2048.Idx) : rowOf ((outRect d k).emb j) = (ckRect (stIx k)).emb j := by
  have hk := k.isLt; have hd := dev_lt d
  have j0 : (j 0).val < 1 := (j 0).isLt
  have j1 : (j 1).val < 32 := (j 1).isLt
  have e0 : ((outRect d k).emb j 0).val = k.val / 8 % 2 + (j 0).val := by
    exact (rect_emb_unit_val (s := S2x512x2048) _ _ _ j 0).trans (congrArg (· + (j 0).val) (congrFun (outOff_eq d k) 0))
  have e1 : ((outRect d k).emb j 1).val = (if k.val < 16 then 256 * (d.val / 2) else 256 - 256 * (d.val / 2)) + 32 * (k.val % 8) + (j 1).val := by
    exact (rect_emb_unit_val (s := S2x512x2048) _ _ _ j 1).trans (congrArg (· + (j 1).val) (congrFun (outOff_eq d k) 1))
  have e2 : ((outRect d k).emb j 2).val = 0 + (j 2).val := by
    exact (rect_emb_unit_val (s := S2x512x2048) _ _ _ j 2).trans (congrArg (· + (j 2).val) (congrFun (outOff_eq d k) 2))
  funext a; apply Fin.ext
  refine Eq.trans ?_ (rect_emb_unit_val (s := S2x256x2048) (ckOff (stIx k)) _ (ckOff_inb _) j a).symm
  revert a
  refine axes3 ?_ ?_ ?_
  · refine Eq.trans e0 ?_
    show _ = k.val % 16 / 8 + (j 0).val
    omega
  · show ((outRect d k).emb j 1).val % 256 = 32 * (k.val % 16 % 8) + (j 1).val
    rw [e1]; split <;> omega
  · exact e2

/-- The rows the `k`-th copy fills are the device's own for the first sixteen copies, the `x` peer's for the others. -/
theorem outs_own (k : Fin 32) (p : S2x512x2048.Idx) (hp : p ∈ outs d k) : (p 1).val / 256 = d.val / 2 ↔ k.val < 16 := by
  rw [outs, Finset.mem_filter, ← Fin.val_inj, outOf_val] at hp
  have h0 : (p 0).val < 2 := (p 0).isLt
  have := hp.2
  split at this <;> constructor <;> intro h <;> omega

/-- A copy of own sums into the result. -/
theorem stOwn_val (k : Fin 32) (hk : k.val < 16) (f : S2x512x2048.Idx → Elt F .f32) (p : S2x512x2048.Idx) (hp : p ∈ outs d k) :
    (outCk d k).view.write (Elt F) f ((ck xsM (stIx k)).view.read (Elt F) (xsV O Wo d)) Finset.univ p = outV O Wo d p := by
  have ho := (outs_own d k p hp).2 hk
  rw [outV, if_pos ho]
  rw [← outCk_set, View.set, Finset.mem_map] at hp
  obtain ⟨j, -, rfl⟩ := hp
  refine (View.write_emb_of_mem _ _ (Finset.mem_univ _)).trans ?_
  exact congrArg (xsV O Wo d) (outRow d k _).symm
/-- A copy of received sums into the result. -/
theorem stRecv_val (k : Fin 32) (hk : ¬ k.val < 16) (f : S2x512x2048.Idx → Elt F .f32) (p : S2x512x2048.Idx) (hp : p ∈ outs d k) :
    (outCk d k).view.write (Elt F) f ((ck xrM (stIx k)).view.read (Elt F) (xsV O Wo (xp d))) Finset.univ p = outV O Wo d p := by
  have ho := fun h => hk ((outs_own d k p hp).1 h)
  rw [outV, if_neg ho]
  rw [← outCk_set, View.set, Finset.mem_map] at hp
  obtain ⟨j, -, rfl⟩ := hp
  refine (View.write_emb_of_mem _ _ (Finset.mem_univ _)).trans ?_
  exact congrArg (xsV O Wo (xp d)) (outRow d k _).symm

end Stores

end Cert.KernelIdeal.Own
end
-- ==== Proof.Protocol.lean ====
/- The protocol of the kernel: what each semaphore's arrivals hand over, what each device owes its peers, and the
   order in which devices may wait. -/
module

public import proofs.«01_k».proof.Proof.Vals
public import Idealize.ShloMosaic.Lib.Pipeline.Kit
public import Idealize.ShloMosaic.Lib.Pipeline.BigSepL
public import Idealize.ShloMosaic.Lib.Rounds
public import Idealize.ShloMosaic.Lib.Tactic

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The ghost state: the pipeline's cells beside the kernel's own. -/
abbrev UU : Type := UR sig nD τ × URounds (GSem nD τ sig) Bool

local notation "𝕄" => MT nD τ sig Unit (Elt F) ℕ UU ℕ

abbrev EP : Emb (UR sig nD τ) 𝕄 := embL
abbrev ER : Emb (URounds (GSem nD τ sig) Bool) 𝕄 := embR

/-! ## The cells -/

/-- The barrier semaphore. -/
abbrev barS : Sem sig := ((SemArray.scalar (sig.barrier 0 rfl) : Sems sig S_)).sem
abbrev barCell (c : Dev nD) : GSem nD τ sig := ((c : Thread nD τ), .reg barS)
/-- The cell of a copy semaphore on device `c`. -/
abbrev gc (c : Dev nD) (s : DmaSem sig) : GSem nD τ sig := ((c : Thread nD τ), .dma s)

/-- The semaphore of the `n`-th copy into the result, at any number. -/
def stN (n : ℕ) : DmaSem sig := ⟨66 + n % 2, by have : n % 2 < 2 := Nat.mod_lt _ (by decide); show _ < 68; omega⟩

theorem ysS_val : ∀ i : Fin 16, (ysS i).val = 2 + i.val := by decide
theorem yrS_val : ∀ i : Fin 16, (yrS i).val = 18 + i.val := by decide
theorem xsS_val : ∀ i : Fin 16, (xsS i).val = 34 + i.val := by decide
theorem xrS_val : ∀ i : Fin 16, (xrS i).val = 50 + i.val := by decide
theorem stSem_eq : ∀ k : Fin 32, stSem k = stN k.val := by decide

/-- The bytes-worth of one chunk, what a copy of it credits. -/
@[irreducible] def N : ℕ := (ck ysM 0).view.dmaCredit
theorem N_eq : N = (ck ysM 0).view.dmaCredit := by unfold N; rfl
theorem N_pos : 0 < N := by rw [N_eq]; exact View.dmaCredit_pos _ (by decide)
theorem credit_ck (M : Memref sig .tc .vmem S2x256x2048 .f32) (i : Fin 16) : (ck M i).view.dmaCredit = N := by rw [N_eq]
theorem credit_out (d : Dev nD) (k : Fin 32) : (outCk d k).view.dmaCredit = N := by rw [N_eq]

/-! ## The buffers, by chunks -/

abbrev ysP (c : Dev nD) (q : PosShare TreeShare) (s : Finset (Fin 16)) (f : Buf3 F) : sProp 𝕄 := ysM.view.loc (c : Thread nD τ) ↦[cks s]{q} f
abbrev yrP (c : Dev nD) (q : PosShare TreeShare) (s : Finset (Fin 16)) (f : Buf3 F) : sProp 𝕄 := yrM.view.loc (c : Thread nD τ) ↦[cks s]{q} f
abbrev xsP (c : Dev nD) (q : PosShare TreeShare) (s : Finset (Fin 16)) (f : Buf3 F) : sProp 𝕄 := xsM.view.loc (c : Thread nD τ) ↦[cks s]{q} f
abbrev xrP (c : Dev nD) (q : PosShare TreeShare) (s : Finset (Fin 16)) (f : Buf3 F) : sProp 𝕄 := xrM.view.loc (c : Thread nD τ) ↦[cks s]{q} f
abbrev owP (c : Dev nD) (q : PosShare TreeShare) (s : Finset (Fin 16)) (f : Buf3 F) : sProp 𝕄 := owM.view.loc (c : Thread nD τ) ↦[cks s]{q} f
/-- The rows of the result the `k`-th copy fills, on device `c`. -/
abbrev outP (c : Dev nD) (k : Fin 32) (f : S2x512x2048.Idx → Elt F .f32) : sProp 𝕄 :=
  (Memref.whole main_v2).view.loc (c : Thread nD τ) ↦[outs c k]{fullShare} f

variable (O : Dev nD → S2x1024x1024.Idx → Elt F .f32) (Wo : Dev nD → S1024x2048.Idx → Elt F .f32)

/-! ## The payloads -/

/-- Paid to `c`'s barrier by the `y` peer: its receive buffer of the first exchange, whose arrivals are open. -/
def yBar (c : Dev nD) : sProp 𝕄 :=
  bigSep Finset.univ fun i : Fin 16 => iprop((∃ f, yrP (yp c) fullShare {i} f) ∗ reached ER (gc (yp c) (yrS i)) 0)
/-- Paid to `c`'s barrier by the `x` peer: its receive buffer of the second exchange, whose arrivals are open. -/
def xBar (c : Dev nD) : sProp 𝕄 :=
  bigSep Finset.univ fun i : Fin 16 => iprop((∃ f, xrP (xp c) fullShare {i} f) ∗ reached ER (gc (xp c) (xrS i)) 0)

/-- What a copy into the result gives back of its source. -/
def srcBack (c : Dev nD) (k : Fin 32) : sProp 𝕄 :=
  if k.val < 16 then xsP c fullShare.right {stIx k} (xsV O Wo c) else xrP c fullShare {stIx k} (xsV O Wo (xp c))
/-- What the `k`-th copy into the result hands over. -/
def stPay (c : Dev nD) (k : Fin 32) : sProp 𝕄 := iprop(outP c k (outV O Wo c) ∗ srcBack O Wo c k)

def ix16 (n : ℕ) : Fin 16 := ⟨n % 16, Nat.mod_lt _ (by decide)⟩
def ix32 (n : ℕ) : Fin 32 := ⟨n % 32, Nat.mod_lt _ (by decide)⟩

/-- What the arrivals of round `r` at copy semaphore `n` of device `c` hand over. -/
def dmaPay (c : Dev nD) (n r : ℕ) : sProp 𝕄 :=
  if n < 18 then ysP c fullShare {ix16 (n - 2)} (ysV O Wo c)
  else if n < 34 then yrP c fullShare {ix16 (n - 2)} (ysV O Wo (yp c))
  else if n < 50 then xsP c fullShare.left {ix16 (n - 2)} (xsV O Wo c)
  else if n < 66 then xrP c fullShare {ix16 (n - 2)} (xsV O Wo (xp c))
  else stPay O Wo c (ix32 (2 * r + (n - 66)))

/-- How many rounds copy semaphore `n` has. -/
def rounds (n : ℕ) : ℕ := if n < 2 then 0 else if n < 66 then 1 else 16

/-- The schedule of the kernel's own cells. -/
def Rd : Rounds.Schedule (GSem nD τ sig) Bool 𝕄 where
  duties g r := if g.1.2 = .tc then
    (match g.2 with
      | .reg s => if r = 0 ∧ s = barS then {false, true} else ∅
      | .dma s => if r < rounds s.val then {false} else ∅) else ∅
  unitless _ := False
  amount g _ _ := match g.2 with | .reg _ => 1 | .dma _ => N
  payload g r b := match g.2 with
    | .reg _ => if b then xBar g.1.1 else yBar g.1.1
    | .dma s => dmaPay O Wo g.1.1 s.val r
  amount_pos g _ _ _ := by
    rcases g with ⟨t, s | s⟩
    · exact Nat.one_pos
    · exact N_pos

instance Rd_payload_storable (g : GSem nD τ sig) (r : ℕ) (d : Bool) :
    BI.Storable (upEmb : UEmb _ 𝕄) ((Rd O Wo).payload g r d) := by
  rcases g with ⟨t, s | s⟩
  · show BI.Storable upEmb (if d then xBar t.1 else yBar t.1)
    unfold xBar yBar
    split <;> infer_instance
  · show BI.Storable upEmb (dmaPay O Wo t.1 s.val r)
    unfold dmaPay stPay srcBack
    (repeat' split) <;> infer_instance

section Sched
variable (c : Dev nD)

theorem duties_bar : (Rd O Wo).duties (barCell c) 0 = {false, true} := by
  dsimp only [Rd]; rw [if_pos rfl]; exact if_pos ⟨rfl, rfl⟩
theorem later_bar : ∀ r, 1 ≤ r → (Rd O Wo).duties (barCell c) r = ∅ := fun r hr => by
  dsimp only [Rd]; rw [if_pos rfl]; exact if_neg (fun h => by omega)
theorem expect_bar : (Rd O Wo).expect (barCell c) 0 = 2 := by
  unfold Schedule.expect Schedule.amountOf; rw [duties_bar]; rfl
theorem rest_bar : bigSep ((Rd O Wo).duties (barCell c) 0 \ ∅) (fun u => (Rd O Wo).payload (barCell c) 0 u)
    = iprop(yBar c ∗ xBar c) := by
  rw [Finset.sdiff_empty, duties_bar, bigSep_insert (by decide), bigSep_singleton]; rfl

variable (s : DmaSem sig) (r : ℕ)
theorem duties_dma (h : r < rounds s.val) : (Rd O Wo).duties (gc c s) r = {false} := by
  dsimp only [Rd]; rw [if_pos rfl]; exact if_pos h
theorem later_dma : ∀ r, rounds s.val ≤ r → (Rd O Wo).duties (gc c s) r = ∅ := fun r hr => by
  dsimp only [Rd]; rw [if_pos rfl]; exact if_neg (Nat.not_lt.2 hr)
theorem mem_dma (h : r < rounds s.val) : false ∈ (Rd O Wo).duties (gc c s) r := by
  rw [duties_dma O Wo c s r h]; exact Finset.mem_singleton_self _
theorem amount_dma (b : Bool) : (Rd O Wo).amount (gc c s) r b = N := rfl
theorem expect_dma (h : r < rounds s.val) : (Rd O Wo).expect (gc c s) r = N := by
  unfold Schedule.expect Schedule.amountOf; rw [duties_dma O Wo c s r h, Finset.sum_singleton]; rfl
theorem rest_dma (h : r < rounds s.val) :
    bigSep ((Rd O Wo).duties (gc c s) r \ ∅) (fun u => (Rd O Wo).payload (gc c s) r u) = dmaPay O Wo c s.val r := by
  rw [Finset.sdiff_empty, duties_dma O Wo c s r h, bigSep_singleton]; rfl
end Sched

theorem rounds_ys (i : Fin 16) : rounds (ysS i).val = 1 := by
  have := i.isLt; rw [ysS_val, rounds, if_neg (by omega), if_pos (by omega)]
theorem rounds_yr (i : Fin 16) : rounds (yrS i).val = 1 := by
  have := i.isLt; rw [yrS_val, rounds, if_neg (by omega), if_pos (by omega)]
theorem rounds_xs (i : Fin 16) : rounds (xsS i).val = 1 := by
  have := i.isLt; rw [xsS_val, rounds, if_neg (by omega), if_pos (by omega)]
theorem rounds_xr (i : Fin 16) : rounds (xrS i).val = 1 := by
  have := i.isLt; rw [xrS_val, rounds, if_neg (by omega), if_pos (by omega)]
theorem rounds_st (n : ℕ) : rounds (stN n).val = 16 := by
  show rounds (66 + n % 2) = 16; rw [rounds, if_neg (by omega), if_neg (by omega)]

theorem pay_ys (c : Dev nD) (i : Fin 16) : dmaPay O Wo c (ysS i).val 0 = ysP c fullShare {i} (ysV O Wo c) := by
  have := i.isLt
  have e : ix16 (2 + i.val - 2) = i := Fin.ext (by show (2 + i.val - 2) % 16 = _; omega)
  rw [ysS_val, dmaPay, if_pos (by omega), e]
theorem pay_yr (c : Dev nD) (i : Fin 16) : dmaPay O Wo c (yrS i).val 0 = yrP c fullShare {i} (ysV O Wo (yp c)) := by
  have := i.isLt
  have e : ix16 (18 + i.val - 2) = i := Fin.ext (by show (18 + i.val - 2) % 16 = _; omega)
  rw [yrS_val, dmaPay, if_neg (by omega), if_pos (by omega), e]
theorem pay_xs (c : Dev nD) (i : Fin 16) : dmaPay O Wo c (xsS i).val 0 = xsP c fullShare.left {i} (xsV O Wo c) := by
  have := i.isLt
  have e : ix16 (34 + i.val - 2) = i := Fin.ext (by show (34 + i.val - 2) % 16 = _; omega)
  rw [xsS_val, dmaPay, if_neg (by omega), if_neg (by omega), if_pos (by omega), e]
theorem pay_xr (c : Dev nD) (i : Fin 16) : dmaPay O Wo c (xrS i).val 0 = xrP c fullShare {i} (xsV O Wo (xp c)) := by
  have := i.isLt
  have e : ix16 (50 + i.val - 2) = i := Fin.ext (by show (50 + i.val - 2) % 16 = _; omega)
  rw [xrS_val, dmaPay, if_neg (by omega), if_neg (by omega), if_neg (by omega), if_pos (by omega), e]
theorem pay_st (c : Dev nD) (k : Fin 32) : dmaPay O Wo c (stN k.val).val (k.val / 2) = stPay O Wo c k := by
  have := k.isLt
  have e : ix32 (2 * (k.val / 2) + (66 + k.val % 2 - 66)) = k :=
    Fin.ext (by show (2 * (k.val / 2) + (66 + k.val % 2 - 66)) % 32 = _; omega)
  rw [show (stN k.val).val = 66 + k.val % 2 from rfl, dmaPay, if_neg (by omega), if_neg (by omega), if_neg (by omega), if_neg (by omega), e]

/-! ## What a device owes, and the order of waits -/

/-- What `c` still owes the receive cells of its `y` peer once the chunks before `a` are sent. -/
def yO (c : Dev nD) (a : ℕ) : CellTallies nD τ sig Unit :=
  ∑ i ∈ Finset.univ.filter (fun i : Fin 16 => a ≤ i.val), tallyAt (gc (yp c) (yrS i)) () N
/-- What `c` still owes the receive cells of its `x` peer once the chunks before `a` are sent. -/
def xO (c : Dev nD) (a : ℕ) : CellTallies nD τ sig Unit :=
  ∑ i ∈ Finset.univ.filter (fun i : Fin 16 => a ≤ i.val), tallyAt (gc (xp c) (xrS i)) () N

theorem filter_step (i : Fin 16) : (Finset.univ.filter fun j : Fin 16 => i.val ≤ j.val)
    = insert i (Finset.univ.filter fun j : Fin 16 => i.val + 1 ≤ j.val) := by
  ext j; simp only [Finset.mem_filter, Finset.mem_univ, true_and, Finset.mem_insert, ← Fin.val_inj]; omega
theorem yO_step (c : Dev nD) (i : Fin 16) : yO c i.val = yO c (i.val + 1) + tallyAt (gc (yp c) (yrS i)) () N := by
  rw [yO, filter_step, Finset.sum_insert (by simp), add_comm]; rfl
theorem xO_step (c : Dev nD) (i : Fin 16) : xO c i.val = xO c (i.val + 1) + tallyAt (gc (xp c) (xrS i)) () N := by
  rw [xO, filter_step, Finset.sum_insert (by simp), add_comm]; rfl
theorem yO_end (c : Dev nD) : yO c 16 = 0 := by
  rw [yO, Finset.filter_false_of_mem (fun i _ => by have := i.isLt; omega), Finset.sum_empty]
theorem xO_end (c : Dev nD) (a : ℕ) (h : 16 ≤ a) : xO c a = 0 := by
  rw [xO, Finset.filter_false_of_mem (fun i _ => by have := i.isLt; omega), Finset.sum_empty]

/-- What `c` owes at launch: a unit on each peer's barrier, and every chunk. -/
def O₀ (c : Dev nD) : CellTallies nD τ sig Unit :=
  yO c 0 + xO c 0 + tallyAt (barCell (xp c)) () 1 + tallyAt (barCell (yp c)) () 1

def L (g : GSem nD τ sig) : Finset Unit := if g.1.2 = .tc then {()} else ∅
/-- The barrier waits before the first exchange's arrivals, those before the second's; the rest are at zero. -/
def lv (g : GSem nD τ sig) (_ : Unit) : ℕ := match g.2 with
  | .reg _ => 1
  | .dma s => if s.val < 18 then 0 else if s.val < 34 then 2 else if s.val < 50 then 0 else if s.val < 66 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_yr (c : Dev nD) (i : Fin 16) : lv (gc c (yrS i)) () = 2 := by
  have := i.isLt; show (if (yrS i).val < 18 then 0 else _) = 2
  rw [yrS_val, if_neg (by omega), if_pos (by omega)]
theorem lv_xr (c : Dev nD) (i : Fin 16) : lv (gc c (xrS i)) () = 3 := by
  have := i.isLt; show (if (xrS i).val < 18 then 0 else _) = 3
  rw [xrS_val, if_neg (by omega), if_neg (by omega), if_neg (by omega), if_pos (by omega)]
theorem lv_st (c : Dev nD) (n : ℕ) : lv (gc c (stN n)) () = 0 := by
  show (if (stN n).val < 18 then 0 else _) = 0
  rw [show (stN n).val = 66 + n % 2 from rfl, if_neg (by omega), if_neg (by omega), if_neg (by omega), if_neg (by omega)]

/-- Where a device owes something: a receive cell of a peer, at a level above one. -/
theorem owed_cell {c : Dev nD} {a b : ℕ} {g : GSem nD τ sig} {u : Unit} (h : 0 < (yO c a + xO c b) g u) :
    (∃ i : Fin 16, a ≤ i.val ∧ g = gc (yp c) (yrS i)) ∨ (∃ i : Fin 16, b ≤ i.val ∧ g = gc (xp c) (xrS i)) := by
  by_contra hn
  push Not at hn
  have h1 : yO c a g u = 0 := by
    rw [yO]; simp only [Finsupp.coe_finset_sum, Finset.sum_apply]
    refine Finset.sum_eq_zero fun i hi => ?_
    rw [tallyAt_apply, if_neg fun e => hn.1 i (Finset.mem_filter.1 hi).2 e.1]
  have h2 : xO c b g u = 0 := by
    rw [xO]; simp only [Finsupp.coe_finset_sum, Finset.sum_apply]
    refine Finset.sum_eq_zero fun i hi => ?_
    rw [tallyAt_apply, if_neg fun e => hn.2 i (Finset.mem_filter.1 hi).2 e.1]
  have : (yO c a + xO c b) g u = yO c a g u + xO c b g u := rfl
  omega

theorem mayWait_of (c : Dev nD) (sm : SemLoc sig) (a b l : ℕ) (hl : lv ((c : Thread nD τ), sm) () ≤ l)
    (ha : a < 16 → l < 2) (hb : l < 3) :
    (levAts L lv : sProp 𝕄) ⊢ MayWait (c : Thread nD τ) sm () (yO c a + xO c b) :=
  MayOwe.of_cut (L := L) (lev := lv) l
    (fun p hp => by rw [Finset.mem_singleton.mp hp, L_tc]; exact Finset.mem_singleton_self _)
    (fun g u hg => by
      rcases owed_cell hg with ⟨i, _, e⟩ | ⟨i, _, e⟩ <;> rw [e, L_tc] <;> exact Finset.mem_singleton_self _)
    (fun p hp => by rw [Finset.mem_singleton.mp hp]; exact hl)
    (fun g u hg => by
      rcases owed_cell hg with ⟨i, h, e⟩ | ⟨i, h, e⟩
      · rw [e, lv_yr]; exact ha (Nat.lt_of_le_of_lt h i.isLt)
      · rw [e, lv_xr]; exact hb)

/-! ## The invariants -/

/-- The kernel's own cells on a device: the barrier, and the copy semaphores from the third on. -/
def cellN (c : Dev nD) (j : Fin 67) : GSem nD τ sig :=
  ((c : Thread nD τ), if j.val = 0 then .reg barS else .dma ⟨j.val + 1, by have := j.isLt; show _ < 68; omega⟩)

/-- A cell of the kernel's own. -/
def OwnCell (g : GSem nD τ sig) : Prop := ∃ c j, cellN c j = g

theorem bar_own (c : Dev nD) : OwnCell (barCell c) := ⟨c, 0, rfl⟩
theorem dma_own (c : Dev nD) (s : DmaSem sig) (h : 2 ≤ s.val) : OwnCell (gc c s) :=
  ⟨c, ⟨s.val - 1, by have : s.val < 68 := s.isLt; omega⟩, by
    unfold cellN
    rw [if_neg (by show ¬ (s.val - 1 = 0); omega)]
    exact congrArg (fun x => ((c : Thread nD τ), SemLoc.dma x)) (Fin.ext (by show s.val - 1 + 1 = s.val; omega))⟩
theorem ys_own (c : Dev nD) (i : Fin 16) : OwnCell (gc c (ysS i)) := dma_own c _ (by rw [ysS_val]; omega)
theorem yr_own (c : Dev nD) (i : Fin 16) : OwnCell (gc c (yrS i)) := dma_own c _ (by rw [yrS_val]; omega)
theorem xs_own (c : Dev nD) (i : Fin 16) : OwnCell (gc c (xsS i)) := dma_own c _ (by rw [xsS_val]; omega)
theorem xr_own (c : Dev nD) (i : Fin 16) : OwnCell (gc c (xrS i)) := dma_own c _ (by rw [xrS_val]; omega)
theorem st_own (c : Dev nD) (n : ℕ) : OwnCell (gc c (stN n)) := dma_own c _ (by show 2 ≤ 66 + n % 2; omega)

/-- Every own cell's invariant, at the names the launch chose. -/
def invs (K : GSem nD τ sig → ℕ) : sProp 𝕄 :=
  bigSep Finset.univ fun c : Dev nD => bigSep Finset.univ fun j : Fin 67 => cellInv ER (Rd O Wo) (K (cellN c j)) (cellN c j)

instance invs_persistent (K : GSem nD τ sig → ℕ) : BI.Persistent (invs O Wo K) := by unfold invs; infer_instance

theorem inv_at (K : GSem nD τ sig → ℕ) {g : GSem nD τ sig} (h : OwnCell g) :
    invs O Wo K ⊢ cellInv ER (Rd O Wo) (K g) g := by
  obtain ⟨c, j, rfl⟩ := h
  unfold invs
  rw [bigSep_erase (Finset.mem_univ c), bigSep_erase (Finset.mem_univ j)]
  exact sep_elim_left.trans sep_elim_left

end Cert.KernelIdeal.Own
end
-- ==== Proof.Steps.lean ====
/- The steps of the kernel, one by one: what each needs, and what it leaves. -/
module

public import proofs.«01_k».proof.Proof.Protocol

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- What a piece of the kernel on device `c` needs in order to end in `Q`. -/
abbrev WP {α : Type} (c : Dev nD) (p : KProg F α) (Q : α → sProp 𝕄) : sProp 𝕄 :=
  wp frame (wpE (defs₀ (F := F)) 𝒱₀ (c : Thread nD τ) none) Set.univ p Q

/-- Device `c` owes `T`, having waited wherever it has. -/
def ow (c : Dev nD) (T : CellTallies nD τ sig Unit) : sProp 𝕄 := iprop(∃ W, owes (c : Thread nD τ) T W)

variable (O : Dev nD → S2x1024x1024.Idx → Elt F .f32) (Wo : Dev nD → S1024x2048.Idx → Elt F .f32)
variable (K : GSem nD τ sig → ℕ) (c : Dev nD)

/-! ## Folding a step over a list -/

/-- A step that takes `R k` to `D k` while the running state goes from `X k` to `X (k + 1)`, run over consecutive
    entries. -/
theorem each_wp {n : ℕ} (f : Fin n → KProg F PUnit) (C : sProp 𝕄) [BI.Persistent C] (R D : Fin n → sProp 𝕄) (X : ℕ → sProp 𝕄)
    (hf : ∀ k (Q : PUnit → sProp 𝕄), iprop(C ∗ R k ∗ X k.val ∗ ((D k ∗ X (k.val + 1)) -∗ Q ⟨⟩)) ⊢ WP c (f k) Q) :
    ∀ (l : List (Fin n)) (a : ℕ), l.map Fin.val = List.range' a l.length → ∀ Q : PUnit → sProp 𝕄,
      iprop(C ∗ bigSepL l R ∗ X a ∗ ((bigSepL l D ∗ X (a + l.length)) -∗ Q ⟨⟩)) ⊢ WP c (each f l) Q
  | [], a, _, Q => by
    show _ ⊢ wp _ _ _ (Prog.ret ⟨⟩) Q
    rw [wp_ret]
    iintro ⟨-, HR, HX, HQ⟩
    imodintro
    iapply HQ
    isplitl [HR]; · iexact HR
    iexact HX
  | i :: l, a, h, Q => by
    rw [List.map_cons, List.length_cons, List.range'_succ, List.cons.injEq] at h
    show _ ⊢ wp _ _ _ (f i >>= fun _ => each f l) Q
    rw [wp_bind, bigSepL_cons', bigSepL_cons']
    iintro ⟨#HC, ⟨HR, HRl⟩, HX, HQ⟩
    iapply (hf i _)
    isplitr; · iexact HC
    isplitl [HR]; · iexact HR
    rw [h.1]
    isplitl [HX]; · iexact HX
    iintro ⟨HD, HX⟩
    iapply (each_wp f C R D X hf l (a + 1) h.2 Q)
    isplitr; · iexact HC
    isplitl [HRl]; · iexact HRl
    isplitl [HX]; · iexact HX
    iintro ⟨HDl, HX⟩
    iapply HQ
    rw [List.length_cons, show a + (l.length + 1) = a + 1 + l.length by omega]
    isplitl [HD HDl]
    · isplitl [HD]; · iexact HD
      iexact HDl
    iexact HX

/-! ## Waits on copies -/

theorem wait_wp (s : DmaSem sig) (r : ℕ) (h : r < rounds s.val) (hm : OwnCell (gc c s))
    (op : TpuEff nD τ sig (Elt F) Λ₀ .tc PUnit)
    (hw : ∀ Kt : PUnit → sProp 𝕄, wpE (defs₀ (F := F)) 𝒱₀ (c : Thread nD τ) none Set.univ op Kt
      = waitSpec (c : Thread nD τ) Set.univ (.dma s) N Kt)
    (T : CellTallies nD τ sig Unit) (Q : PUnit → sProp 𝕄) :
    iprop(invs O Wo K ∗ MayWait (c : Thread nD τ) (.dma s) () T ∗ cred (tallyAt (gc c s) () N) ∗ ow c T ∗ atPos ER (gc c s) r ∅ 0
        ∗ ((ow c T ∗ atPos ER (gc c s) (r + 1) ∅ 0 ∗ reached ER (gc c s) (r + 1) ∗ dmaPay O Wo c s.val r) -∗ Q ⟨⟩))
      ⊢ WP c (Prog.lift op) Q := by
  unfold ow
  iintro ⟨#HI, Hmw, Hc, ⟨%W, HO⟩, Hat, HQ⟩
  unfold Prog.lift
  iapply (Rounds.wp_wait_rest_token 𝒱₀ ER (Rd O Wo) (c : Thread nD τ) none (κ := K (gc c s)) hw (Set.mem_univ _) ()
      (O := T) (W := W) (R := r) (m := 0) (T := ∅) ((Nat.zero_add _).trans (expect_dma O Wo c s r h).symm)) $$ [Hc HO Hat Hmw]
  · isplitr; · iapply (inv_at O Wo K hm); iexact HI
    isplitl [Hc]; · iexact Hc
    isplitl [HO]; · iexact HO
    isplitl [Hmw]; · iexact Hmw
    iexact Hat
  iintro ⟨HO, Hat, Hr, Hp⟩
  rw [wp_ret]
  imodintro
  iapply HQ
  isplitl [HO]; · iexists _; iexact HO
  isplitl [Hat]; · iexact Hat
  isplitl [Hr]; · iexact Hr
  ihave Hp := (Entails.of_eq (rest_dma O Wo c s r h)) $$ Hp
  iexact Hp

/-! ## A chunk, as the copies name it -/

theorem ysP_ck (q : PosShare TreeShare) (i : Fin 16) (f : Buf3 F) : (ysP c q {i} f : sProp 𝕄)
    = ((ck ysM i).view.loc (c : Thread nD τ) ↦[(ck ysM i).view.set]{q} f) := by rw [ysCk_set]
theorem yrP_ck (q : PosShare TreeShare) (i : Fin 16) (f : Buf3 F) : (yrP c q {i} f : sProp 𝕄)
    = ((ck yrM i).view.loc (c : Thread nD τ) ↦[(ck yrM i).view.set]{q} f) := by rw [yrCk_set]
theorem xsP_ck (q : PosShare TreeShare) (i : Fin 16) (f : Buf3 F) : (xsP c q {i} f : sProp 𝕄)
    = ((ck xsM i).view.loc (c : Thread nD τ) ↦[(ck xsM i).view.set]{q} f) := by rw [xsCk_set]
theorem xrP_ck (q : PosShare TreeShare) (i : Fin 16) (f : Buf3 F) : (xrP c q {i} f : sProp 𝕄)
    = ((ck xrM i).view.loc (c : Thread nD τ) ↦[(ck xrM i).view.set]{q} f) := by rw [xrCk_set]
theorem outP_ck (k : Fin 32) (f : S2x512x2048.Idx → Elt F .f32) : (outP c k f : sProp 𝕄)
    = ((outCk c k).view.loc (c : Thread nD τ) ↦[(outCk c k).view.set]{fullShare} f) := by rw [outCk_set]

/-! ## The first exchange -/

/-- What sending chunk `i` to the `y` peer needs beside the chunk. -/
def yRes (i : Fin 16) : sProp 𝕄 :=
  iprop((∃ f, yrP (yp c) fullShare {i} f) ∗ reached ER (gc (yp c) (yrS i)) 0 ∗ dutyTok ER (gc (yp c) (yrS i)) 0 false
    ∗ dutyTok ER (gc c (ysS i)) 0 false ∗ reached ER (gc c (ysS i)) 0)

theorem ySend_wp (i : Fin 16) (b : ℕ) (Q : PUnit → sProp 𝕄) :
    iprop(invs O Wo K ∗ (yRes c i ∗ ysP c fullShare {i} (ysV O Wo c)) ∗ ow c (yO c i.val + xO c b)
        ∗ ((cred (tallyAt (gc c (ysS i)) () N) ∗ ow c (yO c (i.val + 1) + xO c b)) -∗ Q ⟨⟩))
      ⊢ WP c (ySend c i) Q := by
  unfold ow yRes ySend Prog.lift
  iintro ⟨#HI, ⟨⟨⟨%fd, Hd⟩, #Hr2, Ht2, Ht1, #Hr1⟩, Hs⟩, ⟨%W, HO⟩, HQ⟩
  ihave Hd := (Entails.of_eq (yrP_ck (yp c) fullShare i fd)) $$ Hd
  ihave Hs := (Entails.of_eq (ysP_ck c fullShare i (ysV O Wo c))) $$ Hs
  iapply (Rounds.wp_send_pointsTo 𝒱₀ ER (Rd O Wo) (c : Thread nD τ) none (c' := (yp c : Thread nD τ)) (src := ck ysM i) (dst := ck yrM i)
      (sS := .dma (ysS i)) (sem := .dma (yrS i)) (q := fullShare) (fs := ysV O Wo c) (κ₁ := K (gc c (ysS i))) (κ₂ := K (gc (yp c) (yrS i)))
      (r₁ := 0) (r₂ := 0) (d₁ := false) (d₂ := false) (fd := fd)
      (mem_dma O Wo c _ 0 (by rw [rounds_ys]; decide)) (mem_dma O Wo (yp c) _ 0 (by rw [rounds_yr]; decide))
      () () N (credit_ck yrM i) rfl rfl (yO c (i.val + 1) + xO c b) (O₀ := yO c i.val + xO c b) (by rw [yO_step, add_right_comm]) (W := W)
      (by
        show _ ⊢ dmaPay O Wo c (ysS i).val 0
        rw [pay_ys, ysCk_set])
      (by
        show _ ⊢ dmaPay O Wo (yp c) (yrS i).val 0
        rw [pay_yr, yp_yp, yrCk_set]
        exact Entails.of_eq (pointsTo_congr fun p hp => ySend_val i fd (ysV O Wo c) p hp))) $$ [Hs Hd HO Ht1 Ht2]
  · isplitr; · iapply (inv_at O Wo K (ys_own c i)); iexact HI
    isplitr; · iapply (inv_at O Wo K (yr_own (yp c) i)); iexact HI
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply HQ
  isplitl [Hc]; · iexact Hc
  iexists _; iexact HO

/-! ## The second exchange, and the copies into the result -/

/-- What sending chunk `i` to the `x` peer needs beside the chunk. -/
def xRes (i : Fin 16) : sProp 𝕄 :=
  iprop((∃ f, xrP (xp c) fullShare {i} f) ∗ reached ER (gc (xp c) (xrS i)) 0 ∗ dutyTok ER (gc (xp c) (xrS i)) 0 false
    ∗ dutyTok ER (gc c (xsS i)) 0 false ∗ reached ER (gc c (xsS i)) 0)

theorem xSend_wp (i : Fin 16) (a : ℕ) (Q : PUnit → sProp 𝕄) :
    iprop(invs O Wo K ∗ (xRes c i ∗ xsP c fullShare.left {i} (xsV O Wo c)) ∗ ow c (yO c a + xO c i.val)
        ∗ ((cred (tallyAt (gc c (xsS i)) () N) ∗ ow c (yO c a + xO c (i.val + 1))) -∗ Q ⟨⟩))
      ⊢ WP c (xSend c i) Q := by
  unfold ow xRes xSend Prog.lift
  iintro ⟨#HI, ⟨⟨⟨%fd, Hd⟩, #Hr2, Ht2, Ht1, #Hr1⟩, Hs⟩, ⟨%W, HO⟩, HQ⟩
  ihave Hd := (Entails.of_eq (xrP_ck (xp c) fullShare i fd)) $$ Hd
  ihave Hs := (Entails.of_eq (xsP_ck c fullShare.left i (xsV O Wo c))) $$ Hs
  iapply (Rounds.wp_send_pointsTo 𝒱₀ ER (Rd O Wo) (c : Thread nD τ) none (c' := (xp c : Thread nD τ)) (src := ck xsM i) (dst := ck xrM i)
      (sS := .dma (xsS i)) (sem := .dma (xrS i)) (q := fullShare.left) (fs := xsV O Wo c) (κ₁ := K (gc c (xsS i))) (κ₂ := K (gc (xp c) (xrS i)))
      (r₁ := 0) (r₂ := 0) (d₁ := false) (d₂ := false) (fd := fd)
      (mem_dma O Wo c _ 0 (by rw [rounds_xs]; decide)) (mem_dma O Wo (xp c) _ 0 (by rw [rounds_xr]; decide))
      () () N (credit_ck xrM i) rfl rfl (yO c a + xO c (i.val + 1)) (O₀ := yO c a + xO c i.val) (by rw [xO_step, add_assoc]) (W := W)
      (by
        show _ ⊢ dmaPay O Wo c (xsS i).val 0
        rw [pay_xs, xsCk_set])
      (by
        show _ ⊢ dmaPay O Wo (xp c) (xrS i).val 0
        rw [pay_xr, xp_xp, xrCk_set]
        exact Entails.of_eq (pointsTo_congr fun p hp => xSend_val i fd (xsV O Wo c) p hp))) $$ [Hs Hd HO Ht1 Ht2]
  · isplitr; · iapply (inv_at O Wo K (xs_own c i)); iexact HI
    isplitr; · iapply (inv_at O Wo K (xr_own (xp c) i)); iexact HI
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply HQ
  isplitl [Hc]; · iexact Hc
  iexists _; iexact HO

theorem ckWait_wp (s : DmaSem sig) (h : rounds s.val = 1) (hm : OwnCell (gc c s)) (src dst : Memref sig .tc .vmem S2x256x2048 .f32)
    (i : Fin 16) (T : CellTallies nD τ sig Unit) (Q : PUnit → sProp 𝕄) :
    iprop(invs O Wo K ∗ MayWait (c : Thread nD τ) (.dma s) () T ∗ cred (tallyAt (gc c s) () N) ∗ ow c T ∗ atPos ER (gc c s) 0 ∅ 0
        ∗ ((ow c T ∗ atPos ER (gc c s) 1 ∅ 0 ∗ reached ER (gc c s) 1 ∗ dmaPay O Wo c s.val 0) -∗ Q ⟨⟩))
      ⊢ WP c (ckWait s src dst i) Q :=
  wait_wp O Wo K c s 0 (by rw [h]; decide) hm _
    (fun Kt => by rw [← credit_ck dst i]; exact wpE_waitDma2_eq 𝒱₀ (c : Thread nD τ) none Set.univ Kt) T Q

/-- The cell of the `n`-th copy into the result: not yet used, or its copy two before is under way. -/
def slot (n : ℕ) : sProp 𝕄 :=
  if n < 2 then iprop(atPos ER (gc c (stN n)) (n / 2) ∅ 0 ∗ reached ER (gc c (stN n)) (n / 2))
  else iprop(cred (tallyAt (gc c (stN n)) () N) ∗ atPos ER (gc c (stN n)) (n / 2 - 1) ∅ 0)
/-- The cell of the `n`-th copy into the result, ready for it. -/
def free (n : ℕ) : sProp 𝕄 := iprop(atPos ER (gc c (stN n)) (n / 2) ∅ 0 ∗ reached ER (gc c (stN n)) (n / 2))
/-- What the copy two before the `k`-th hands over, when there is one. -/
def done (k : Fin 32) : sProp 𝕄 := if 2 ≤ k.val then stPay O Wo c (ix32 (k.val - 2)) else iprop(emp)

theorem stN_add_two (n : ℕ) : stN (n + 2) = stN n := Fin.ext (by show 66 + (n + 2) % 2 = 66 + n % 2; omega)

theorem stWait_wp (k : Fin 32) (T : CellTallies nD τ sig Unit) (Q : PUnit → sProp 𝕄) :
    iprop(invs O Wo K ∗ MayWait (c : Thread nD τ) (.dma (stN k.val)) () T ∗ slot c (k.val + 2) ∗ ow c T
        ∗ ((ow c T ∗ free c (k.val + 2) ∗ stPay O Wo c k) -∗ Q ⟨⟩))
      ⊢ WP c (stWait c k) Q := by
  have hk := k.isLt
  unfold slot free
  rw [if_neg (by omega), stN_add_two, show (k.val + 2) / 2 - 1 = k.val / 2 by omega, show (k.val + 2) / 2 = k.val / 2 + 1 by omega]
  unfold stWait
  rw [stSem_eq]
  iintro ⟨#HI, Hm, ⟨Hc, Hat⟩, HO, HQ⟩
  iapply (wait_wp O Wo K c (stN k.val) (k.val / 2) (by rw [rounds_st]; omega) (st_own c _) _
    (fun Kt => by rw [← credit_out c k]; exact wpE_waitDma2_eq 𝒱₀ (c : Thread nD τ) none Set.univ Kt) T Q)
  isplitr; · iexact HI
  isplitl [Hm]; · iexact Hm
  isplitl [Hc]; · iexact Hc
  isplitl [HO]; · iexact HO
  isplitl [Hat]; · iexact Hat
  iintro ⟨HO, Hat, Hr, Hp⟩
  iapply HQ
  isplitl [HO]; · iexact HO
  isplitl [Hat Hr]
  · isplitl [Hat]; · iexact Hat
    iexact Hr
  ihave Hp := (Entails.of_eq (pay_st O Wo c k)) $$ Hp
  iexact Hp

theorem stPrev_wp (k : Fin 32) (b : ℕ) (Q : PUnit → sProp 𝕄) :
    iprop(invs O Wo K ∗ levAts L lv ∗ slot c k.val ∗ ow c (yO c 16 + xO c b)
        ∗ ((ow c (yO c 16 + xO c b) ∗ free c k.val ∗ done O Wo c k) -∗ Q ⟨⟩))
      ⊢ WP c (stPrev c k) Q := by
  have hk := k.isLt
  unfold stPrev done
  by_cases h : 2 ≤ k.val
  · rw [if_pos h, if_pos h]
    have e : (⟨k.val - 2, Nat.lt_of_le_of_lt (Nat.sub_le _ _) k.isLt⟩ : Fin 32) = ix32 (k.val - 2) :=
      Fin.ext (by show k.val - 2 = (k.val - 2) % 32; omega)
    rw [e]
    have hv : (ix32 (k.val - 2)).val + 2 = k.val := by show (k.val - 2) % 32 + 2 = _; omega
    iintro ⟨#HI, #HL, Hs, HO, HQ⟩
    iapply (stWait_wp O Wo K c (ix32 (k.val - 2)) (yO c 16 + xO c b) Q)
    rw [hv]
    isplitr; · iexact HI
    isplitr
    · iapply (mayWait_of c (.dma (stN (ix32 (k.val - 2)).val)) 16 b 0 (Nat.le_of_eq (lv_st c _)) (fun h => by omega) (by decide))
      iexact HL
    isplitl [Hs]; · iexact Hs
    isplitl [HO]; · iexact HO
    iexact HQ
  · rw [if_neg h, if_neg h]
    unfold slot free
    rw [if_pos (by omega)]
    show _ ⊢ wp _ _ _ (Prog.ret ⟨⟩) Q
    rw [wp_ret]
    iintro ⟨-, -, Hs, HO, HQ⟩
    imodintro
    iapply HQ
    isplitl [HO]; · iexact HO
    isplitl [Hs]; · iexact Hs
    iempintro

/-- The `k`-th copy into the result, from a named buffer. -/
def stFrom (M : Memref sig .tc .vmem S2x256x2048 .f32) (d : Dev nD) (k : Fin 32) : KProg F PUnit :=
  Prog.lift (.enqueueDma (ck M (stIx k)) (.here (outCk d k)) (.dma (stN k.val))
    ((View.wordExact_bits rfl).reshape _ _) ((View.wordExact_bits rfl).reshape _ _) ⟨Or.inl rfl, trivial⟩)

theorem stStart_eq (k : Fin 32) : (stStart c k : KProg F PUnit) = stFrom (stSrc k) c k := by
  unfold stStart stFrom; simp only [stSem_eq]

/-- What the `k`-th copy into the result needs beside its source and its cell. -/
def stRes (f : S2x512x2048.Idx → Elt F .f32) (k : Fin 32) : sProp 𝕄 :=
  iprop(dutyTok ER (gc c (stN k.val)) (k.val / 2) false ∗ outP c k f)

theorem stFrom_wp (M : Memref sig .tc .vmem S2x256x2048 .f32) (q : PosShare TreeShare) (k : Fin 32)
    (f : S2x512x2048.Idx → Elt F .f32) (g : Buf (Elt F) ((ck M (stIx k)).view.loc (c : Thread nD τ)))
    (hg : iprop(((outCk c k).view.loc (c : Thread nD τ) ↦[(outCk c k).view.set]{fullShare}
          ((outCk c k).view.write (Elt F) f ((ck M (stIx k)).view.read (Elt F) g) Finset.univ))
        ∗ ((ck M (stIx k)).view.loc (c : Thread nD τ) ↦[(ck M (stIx k)).view.set]{q} g)) ⊢ (stPay O Wo c k : sProp 𝕄))
    (Q : PUnit → sProp 𝕄) :
    iprop(invs O Wo K ∗ free c k.val ∗ stRes c f k ∗ ((ck M (stIx k)).view.loc (c : Thread nD τ) ↦[(ck M (stIx k)).view.set]{q} g)
        ∗ (slot c (k.val + 2) -∗ Q ⟨⟩))
      ⊢ WP c (stFrom M c k) Q := by
  have hk := k.isLt
  unfold slot free stRes stFrom Prog.lift
  rw [if_neg (by omega), stN_add_two, show (k.val + 2) / 2 - 1 = k.val / 2 by omega]
  iintro ⟨#HI, ⟨Hat, #Hr⟩, ⟨Ht, Hd⟩, Hs, HQ⟩
  ihave Hd := (Entails.of_eq (outP_ck c k f)) $$ Hd
  iapply (Rounds.wp_copy_pointsTo 𝒱₀ ER (Rd O Wo) (c : Thread nD τ) none (src := ck M (stIx k)) (dst := outCk c k) (sem := .dma (stN k.val))
      (q := q) (fs := g) (fd := f) (r := k.val / 2) (d := false) (κ := K (gc c (stN k.val)))
      (mem_dma O Wo c _ (k.val / 2) (by rw [rounds_st]; omega)) () N (credit_out c k) rfl
      (by
        show _ ⊢ dmaPay O Wo c (stN k.val).val (k.val / 2)
        rw [pay_st]
        exact hg)) $$ [Hs Hd Ht]
  · isplitr; · iapply (inv_at O Wo K (st_own c k.val)); iexact HI
    isplitl [Hs]; · iexact Hs
    isplitl [Hd]; · iexact Hd
    isplitl [Ht]; · iexact Ht
    iexact Hr
  iintro Hc
  rw [wp_ret]
  imodintro
  iapply HQ
  isplitl [Hc]; · iexact Hc
  iexact Hat

theorem stStart_wp (k : Fin 32) (f : S2x512x2048.Idx → Elt F .f32) (Q : PUnit → sProp 𝕄) :
    iprop(invs O Wo K ∗ free c k.val ∗ stRes c f k ∗ srcBack O Wo c k ∗ (slot c (k.val + 2) -∗ Q ⟨⟩))
      ⊢ WP c (stStart c k) Q := by
  rw [stStart_eq]
  by_cases h : k.val < 16
  · have hg : iprop(((outCk c k).view.loc (c : Thread nD τ) ↦[(outCk c k).view.set]{fullShare}
          ((outCk c k).view.write (Elt F) f ((ck xsM (stIx k)).view.read (Elt F) (xsV O Wo c)) Finset.univ))
        ∗ ((ck xsM (stIx k)).view.loc (c : Thread nD τ) ↦[(ck xsM (stIx k)).view.set]{fullShare.right} (xsV O Wo c)))
          ⊢ (stPay O Wo c k : sProp 𝕄) := by
      unfold stPay srcBack
      rw [if_pos h, outCk_set, xsCk_set]
      exact sep_mono_left (Entails.of_eq (pointsTo_congr fun p hp => stOwn_val O Wo c k h f p hp))
    have e := xsP_ck (F := F) c fullShare.right (stIx k) (xsV O Wo c)
    unfold srcBack
    rw [if_pos h, show stSrc k = xsM from if_pos h, e]
    exact stFrom_wp O Wo K c xsM fullShare.right k f (xsV O Wo c) hg Q
  · have hg : iprop(((outCk c k).view.loc (c : Thread nD τ) ↦[(outCk c k).view.set]{fullShare}
          ((outCk c k).view.write (Elt F) f ((ck xrM (stIx k)).view.read (Elt F) (xsV O Wo (xp c))) Finset.univ))
        ∗ ((ck xrM (stIx k)).view.loc (c : Thread nD τ) ↦[(ck xrM (stIx k)).view.set]{fullShare} (xsV O Wo (xp c))))
          ⊢ (stPay O Wo c k : sProp 𝕄) := by
      unfold stPay srcBack
      rw [if_neg h, outCk_set, xrCk_set]
      exact sep_mono_left (Entails.of_eq (pointsTo_congr fun p hp => stRecv_val O Wo c k h f p hp))
    have e := xrP_ck (F := F) c fullShare (stIx k) (xsV O Wo (xp c))
    unfold srcBack
    rw [if_neg h, show stSrc k = xrM from if_neg h, e]
    exact stFrom_wp O Wo K c xrM fullShare k f (xsV O Wo (xp c)) hg Q

/-! ## The products and the sums -/

theorem owCk_acc (i : Fin 16) : (owM.access (ckRect i)).set ⊆ cks {i} := by
  show ((View.whole cc0_scratch4).slice (ckRect i)).set ⊆ _
  rw [View.set_slice_whole, ckRect_set]
theorem yrCk_acc (i : Fin 16) : (yrM.access (ckRect i)).set ⊆ cks {i} := by
  show ((View.whole cc0_scratch1).slice (ckRect i)).set ⊆ _
  rw [View.set_slice_whole, ckRect_set]
theorem xsCk_acc (i : Fin 16) : (xsM.access (ckRect i)).set ⊆ cks {i} := by
  show ((View.whole cc0_scratch2).slice (ckRect i)).set ⊆ _
  rw [View.set_slice_whole, ckRect_set]

end Cert.KernelIdeal.Own
end
-- ==== Proof.Steps2.lean ====
/- The products and the sums, and the steps of the kernel's last loop. -/
module

public import proofs.«01_k».proof.Proof.Steps

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (O : Dev nD → S2x1024x1024.Idx → Elt F .f32) (Wo : Dev nD → S1024x2048.Idx → Elt F .f32)
variable (K : GSem nD τ sig → ℕ) (c : Dev nD)

/-- The chunk holds the sums once they are stored. -/
theorem xsAdd_eq (i : Fin 16) (f : Buf3 F) :
    ((xsM.access (ckRect i)).loc (c : Thread nD τ) ↦[cks {i}]{fullShare}
        ((xsM.access (ckRect i)).write (Elt F) f
          (k0_pay8 ((owM.access (ckRect i)).read (Elt F) (owV O Wo c)) ((yrM.access (ckRect i)).read (Elt F) (ysV O Wo (yp c))))
          Finset.univ) : sProp 𝕄) = xsP c fullShare {i} (xsV O Wo c) :=
  pointsTo_congr fun p hp => addCk_val O Wo c i f p hp

theorem addCk_wp (i : Fin 16) (Q : PUnit → sProp 𝕄) :
    iprop(owP c fullShare {i} (owV O Wo c) ∗ yrP c fullShare {i} (ysV O Wo (yp c)) ∗ (∃ f, xsP c fullShare {i} f)
        ∗ ((owP c fullShare {i} (owV O Wo c) ∗ yrP c fullShare {i} (ysV O Wo (yp c)) ∗ xsP c fullShare {i} (xsV O Wo c)) -∗ Q ⟨⟩))
      ⊢ WP c (addCk i) Q := by
  unfold addCk Prog.lift
  iintro ⟨Ho, Hy, ⟨%f, Hx⟩, HQ⟩
  iapply (wp_load_rect 𝒱₀ (c : Thread nD τ) none Set.univ (m := owM) (owCk_acc i)) $$ Ho
  iintro Ho
  iapply (wp_load_rect 𝒱₀ (c : Thread nD τ) none Set.univ (m := yrM) (yrCk_acc i)) $$ Hy
  iintro Hy
  iapply (wp_load_rect 𝒱₀ (c : Thread nD τ) none Set.univ (m := xsM) (xsCk_acc i)) $$ Hx
  iintro Hx
  iapply (wp_store 𝒱₀ (c : Thread nD τ) none Set.univ (m := xsM) (r := ckRect i) (Mk := Finset.univ) (xsCk_acc i)) $$ Hx
  iintro Hx
  rw [wp_ret]
  imodintro
  iapply HQ
  isplitl [Ho]; · iexact Ho
  isplitl [Hy]; · iexact Hy
  ihave Hx := (Entails.of_eq (xsAdd_eq O Wo c i f)) $$ Hx
  iexact Hx

theorem dstA_acc (b : Fin 2) : (ysM.access (rdA b)).set ⊆ cks {⟨8 * b.val, by omega⟩} := by
  show ((View.whole cc0_scratch0).slice (rdA b)).set ⊆ _
  rw [View.set_slice_whole, rdA_set]
theorem dstB_acc (b : Fin 2) : (ysM.access (rdB b)).set ⊆ cks (restCk b) := by
  show ((View.whole cc0_scratch0).slice (rdB b)).set ⊆ _
  rw [View.set_slice_whole, rdB_set]
theorem dstC_acc (b : Fin 2) : (owM.access (rdC b)).set ⊆ cks (batchCk b) := by
  show ((View.whole cc0_scratch4).slice (rdC b)).set ⊆ _
  rw [View.set_slice_whole, rdC_set]

/-- The blocks hold the products once they are stored. -/
theorem ysA_eq (b : Fin 2) (f : Buf3 F) :
    ((ysM.access (rdA b)).loc (c : Thread nD τ) ↦[cks {⟨8 * b.val, by omega⟩}]{fullShare}
        ((ysM.access (rdA b)).write (Elt F) f (k0_pay4 (k0_pay1 (Wo c)) ((oM.access (rcA c b)).read (Elt F) (O c))) Finset.univ) : sProp 𝕄)
      = ysP c fullShare {⟨8 * b.val, by omega⟩} (ysV O Wo c) :=
  pointsTo_congr fun p hp => fillA_val O Wo c b f p hp
theorem ysB_eq (b : Fin 2) (f : Buf3 F) :
    ((ysM.access (rdB b)).loc (c : Thread nD τ) ↦[cks (restCk b)]{fullShare}
        ((ysM.access (rdB b)).write (Elt F) f (k0_pay3 (k0_pay1 (Wo c)) ((oM.access (rcB c b)).read (Elt F) (O c))) Finset.univ) : sProp 𝕄)
      = ysP c fullShare (restCk b) (ysV O Wo c) :=
  pointsTo_congr fun p hp => fillB_val O Wo c b f p hp
theorem owC_eq (b : Fin 2) (f : Buf3 F) :
    ((owM.access (rdC b)).loc (c : Thread nD τ) ↦[cks (batchCk b)]{fullShare}
        ((owM.access (rdC b)).write (Elt F) f (k0_pay6 (k0_pay1 (Wo c)) ((oM.access (rcC c b)).read (Elt F) (O c))) Finset.univ) : sProp 𝕄)
      = owP c fullShare (batchCk b) (owV O Wo c) :=
  pointsTo_congr fun p hp => fillC_val O Wo c b f p hp

/-- The staged rows of `O` on device `c`. -/
abbrev oP (q : PosShare TreeShare) : sProp 𝕄 := oM.view.loc (c : Thread nD τ) ↦[Finset.univ]{q} O c

theorem fillA_wp (q : PosShare TreeShare) (b : Fin 2) (f : Buf3 F) (Q : PUnit → sProp 𝕄) :
    iprop(oP O c q ∗ ysP c fullShare {⟨8 * b.val, by omega⟩} f
        ∗ ((oP O c q ∗ ysP c fullShare {⟨8 * b.val, by omega⟩} (ysV O Wo c)) -∗ Q ⟨⟩))
      ⊢ WP c (fillA oM (k0_pay1 (Wo c)) c b) Q := by
  unfold fillA Prog.lift
  iintro ⟨Ho, Hy, HQ⟩
  iapply (wp_load_rect 𝒱₀ (c : Thread nD τ) none Set.univ (m := oM) (r := rcA c b) (f := O c) (q := q) (Finset.subset_univ _)) $$ Ho
  iintro Ho
  iapply (wp_load_rect 𝒱₀ (c : Thread nD τ) none Set.univ (m := ysM) (dstA_acc b)) $$ Hy
  iintro Hy
  iapply (wp_store 𝒱₀ (c : Thread nD τ) none Set.univ (m := ysM) (r := rdA b) (Mk := Finset.univ) (dstA_acc b)) $$ Hy
  iintro Hy
  rw [wp_ret]
  imodintro
  iapply HQ
  isplitl [Ho]; · iexact Ho
  ihave Hy := (Entails.of_eq (ysA_eq O Wo c b f)) $$ Hy
  iexact Hy

theorem fillB_wp (q : PosShare TreeShare) (b : Fin 2) (f : Buf3 F) (Q : PUnit → sProp 𝕄) :
    iprop(oP O c q ∗ ysP c fullShare (restCk b) f ∗ ((oP O c q ∗ ysP c fullShare (restCk b) (ysV O Wo c)) -∗ Q ⟨⟩))
      ⊢ WP c (fillB oM (k0_pay1 (Wo c)) c b) Q := by
  unfold fillB Prog.lift
  iintro ⟨Ho, Hy, HQ⟩
  iapply (wp_load_rect 𝒱₀ (c : Thread nD τ) none Set.univ (m := oM) (r := rcB c b) (f := O c) (q := q) (Finset.subset_univ _)) $$ Ho
  iintro Ho
  iapply (wp_load_rect 𝒱₀ (c : Thread nD τ) none Set.univ (m := ysM) (dstB_acc b)) $$ Hy
  iintro Hy
  iapply (wp_store 𝒱₀ (c : Thread nD τ) none Set.univ (m := ysM) (r := rdB b) (Mk := Finset.univ) (dstB_acc b)) $$ Hy
  iintro Hy
  rw [wp_ret]
  imodintro
  iapply HQ
  isplitl [Ho]; · iexact Ho
  ihave Hy := (Entails.of_eq (ysB_eq O Wo c b f)) $$ Hy
  iexact Hy

theorem fillC_wp (q : PosShare TreeShare) (b : Fin 2) (f : Buf3 F) (Q : PUnit → sProp 𝕄) :
    iprop(oP O c q ∗ owP c fullShare (batchCk b) f ∗ ((oP O c q ∗ owP c fullShare (batchCk b) (owV O Wo c)) -∗ Q ⟨⟩))
      ⊢ WP c (fillC oM (k0_pay1 (Wo c)) c b) Q := by
  unfold fillC Prog.lift
  iintro ⟨Ho, Hy, HQ⟩
  iapply (wp_load_rect 𝒱₀ (c : Thread nD τ) none Set.univ (m := oM) (r := rcC c b) (f := O c) (q := q) (Finset.subset_univ _)) $$ Ho
  iintro Ho
  iapply (wp_load_rect 𝒱₀ (c : Thread nD τ) none Set.univ (m := owM) (dstC_acc b)) $$ Hy
  iintro Hy
  iapply (wp_store 𝒱₀ (c : Thread nD τ) none Set.univ (m := owM) (r := rdC b) (Mk := Finset.univ) (dstC_acc b)) $$ Hy
  iintro Hy
  rw [wp_ret]
  imodintro
  iapply HQ
  isplitl [Ho]; · iexact Ho
  ihave Hy := (Entails.of_eq (owC_eq O Wo c b f)) $$ Hy
  iexact Hy

/-! ## The last loop -/

/-- What the step of chunk `i`'s own sums needs. -/
def ownRes (i : Fin 16) : sProp 𝕄 :=
  iprop(cred (tallyAt (gc c (yrS i)) () N) ∗ atPos ER (gc c (yrS i)) 0 ∅ 0 ∗ (∃ f, xsP c fullShare {i} f)
    ∗ owP c fullShare {i} (owV O Wo c) ∗ xRes c i)
/-- What it leaves. -/
def ownRet (i : Fin 16) : sProp 𝕄 :=
  iprop(atPos ER (gc c (yrS i)) 1 ∅ 0 ∗ yrP c fullShare {i} (ysV O Wo (yp c)) ∗ owP c fullShare {i} (owV O Wo c)
    ∗ cred (tallyAt (gc c (xsS i)) () N))
/-- The running state before the `n`-th copy into the result. -/
def stX (n : ℕ) : sProp 𝕄 := iprop(ow c (yO c 16 + xO c n) ∗ slot c n ∗ slot c (n + 1))

theorem stIx_lt (k : Fin 32) (h : k.val < 16) : (stIx k).val = k.val := Nat.mod_eq_of_lt h

theorem stReady_own (k : Fin 32) (h : k.val < 16) (Q : PUnit → sProp 𝕄) :
    iprop((invs O Wo K ∗ levAts L lv) ∗ ownRes O Wo c (stIx k) ∗ ow c (yO c 16 + xO c k.val)
        ∗ ((ownRet O Wo c (stIx k) ∗ xsP c fullShare.right {stIx k} (xsV O Wo c) ∗ ow c (yO c 16 + xO c (k.val + 1))) -∗ Q ⟨⟩))
      ⊢ WP c (stReady c k) Q := by
  unfold stReady ownRes ownRet
  rw [if_pos h, ← stIx_lt k h]
  generalize stIx k = i
  show _ ⊢ wp _ _ _ (ckWait (yrS i) ysM yrM i >>= fun _ => addCk i >>= fun _ => xSend c i) Q
  simp only [wp_bind]
  iintro ⟨⟨#HI, #HL⟩, ⟨Hc, Hat, Hx, Ho, Hxr⟩, HO, HQ⟩
  iapply (ckWait_wp O Wo K c (yrS i) (rounds_yr i) (yr_own c i) ysM yrM i (yO c 16 + xO c i.val))
  isplitr; · iexact HI
  isplitr
  · iapply (mayWait_of c (.dma (yrS i)) 16 i.val 2 (Nat.le_of_eq (lv_yr c i)) (fun h => by omega) (by decide))
    iexact HL
  isplitl [Hc]; · iexact Hc
  isplitl [HO]; · iexact HO
  isplitl [Hat]; · iexact Hat
  iintro ⟨HO, Hat, -, Hy⟩
  ihave Hy := (Entails.of_eq (pay_yr O Wo c i)) $$ Hy
  iapply (addCk_wp O Wo c i)
  isplitl [Ho]; · iexact Ho
  isplitl [Hy]; · iexact Hy
  isplitl [Hx]; · iexact Hx
  iintro ⟨Ho, Hy, Hx⟩
  ihave Hx := (pointsTo_share (PosShare.mem_left_op_right fullShare)).1 $$ Hx
  icases Hx with ⟨Hxl, Hxr2⟩
  iapply (xSend_wp O Wo K c i 16)
  isplitr; · iexact HI
  isplitl [Hxr Hxl]
  · isplitl [Hxr]; · iexact Hxr
    iexact Hxl
  isplitl [HO]; · iexact HO
  iintro ⟨Hc, HO⟩
  iapply HQ
  isplitl [Hat Hy Ho Hc]
  · isplitl [Hat]; · iexact Hat
    isplitl [Hy]; · iexact Hy
    isplitl [Ho]; · iexact Ho
    iexact Hc
  isplitl [Hxr2]; · iexact Hxr2
  iexact HO

/-- What the step of the `x` peer's chunk `i` needs. -/
def peerRes (i : Fin 16) : sProp 𝕄 := iprop(cred (tallyAt (gc c (xrS i)) () N) ∗ atPos ER (gc c (xrS i)) 0 ∅ 0)
def peerRet (i : Fin 16) : sProp 𝕄 := atPos ER (gc c (xrS i)) 1 ∅ 0

theorem stReady_peer (k : Fin 32) (h : ¬ k.val < 16) (Q : PUnit → sProp 𝕄) :
    iprop((invs O Wo K ∗ levAts L lv) ∗ peerRes c (stIx k) ∗ ow c (yO c 16 + xO c k.val)
        ∗ ((peerRet c (stIx k) ∗ xrP c fullShare {stIx k} (xsV O Wo (xp c)) ∗ ow c (yO c 16 + xO c (k.val + 1))) -∗ Q ⟨⟩))
      ⊢ WP c (stReady c k) Q := by
  unfold stReady peerRes peerRet
  rw [if_neg h, xO_end c k.val (by omega), xO_end c (k.val + 1) (by omega), yO_end, add_zero]
  generalize stIx k = i
  iintro ⟨⟨#HI, #HL⟩, ⟨Hc, Hat⟩, HO, HQ⟩
  iapply (ckWait_wp O Wo K c (xrS i) (rounds_xr i) (xr_own c i) xsM xrM i 0)
  isplitr; · iexact HI
  isplitr; · rw [MayWait_zero]; iempintro
  isplitl [Hc]; · iexact Hc
  isplitl [HO]; · iexact HO
  isplitl [Hat]; · iexact Hat
  iintro ⟨HO, Hat, -, Hx⟩
  ihave Hx := (Entails.of_eq (pay_xr O Wo c i)) $$ Hx
  iapply HQ
  isplitl [Hat]; · iexact Hat
  isplitl [Hx]; · iexact Hx
  iexact HO

/-- A step of the last loop, whatever its first part takes from `R` to `D`. -/
theorem stStep_of (k : Fin 32) (f : S2x512x2048.Idx → Elt F .f32) (R D : sProp 𝕄)
    (hready : ∀ Q : PUnit → sProp 𝕄, iprop((invs O Wo K ∗ levAts L lv) ∗ R ∗ ow c (yO c 16 + xO c k.val)
        ∗ ((D ∗ srcBack O Wo c k ∗ ow c (yO c 16 + xO c (k.val + 1))) -∗ Q ⟨⟩)) ⊢ WP c (stReady c k) Q)
    (Q : PUnit → sProp 𝕄) :
    iprop((invs O Wo K ∗ levAts L lv) ∗ (R ∗ stRes c f k) ∗ stX c k.val
        ∗ (((D ∗ done O Wo c k) ∗ stX c (k.val + 1)) -∗ Q ⟨⟩))
      ⊢ WP c (stStep c k) Q := by
  unfold stX
  show _ ⊢ wp _ _ _ (stReady c k >>= fun _ => stPrev c k >>= fun _ => stStart c k) Q
  simp only [wp_bind]
  iintro ⟨⟨#HI, #HL⟩, ⟨HR, Hst⟩, ⟨HO, Hs0, Hs1⟩, HQ⟩
  iapply (hready _)
  isplitr
  · isplitr; · iexact HI
    iexact HL
  isplitl [HR]; · iexact HR
  isplitl [HO]; · iexact HO
  iintro ⟨HD, Hsrc, HO⟩
  iapply (stPrev_wp O Wo K c k (k.val + 1))
  isplitr; · iexact HI
  isplitr; · iexact HL
  isplitl [Hs0]; · iexact Hs0
  isplitl [HO]; · iexact HO
  iintro ⟨HO, Hfree, Hdone⟩
  iapply (stStart_wp O Wo K c k f)
  isplitr; · iexact HI
  isplitl [Hfree]; · iexact Hfree
  isplitl [Hst]; · iexact Hst
  isplitl [Hsrc]; · iexact Hsrc
  iintro Hs2
  iapply HQ
  isplitl [HD Hdone]
  · isplitl [HD]; · iexact HD
    iexact Hdone
  isplitl [HO]; · iexact HO
  isplitl [Hs1]; · iexact Hs1
  iexact Hs2

/-- What the step of the `k`-th copy into the result needs, and what it leaves. -/
def stepRes (k : Fin 32) : sProp 𝕄 := if k.val < 16 then ownRes O Wo c (stIx k) else peerRes c (stIx k)
def stepRet (k : Fin 32) : sProp 𝕄 := if k.val < 16 then ownRet O Wo c (stIx k) else peerRet c (stIx k)

theorem stStep_wp (f : S2x512x2048.Idx → Elt F .f32) (k : Fin 32) (Q : PUnit → sProp 𝕄) :
    iprop((invs O Wo K ∗ levAts L lv) ∗ (stepRes O Wo c k ∗ stRes c f k) ∗ stX c k.val
        ∗ (((stepRet O Wo c k ∗ done O Wo c k) ∗ stX c (k.val + 1)) -∗ Q ⟨⟩))
      ⊢ WP c (stStep c k) Q := by
  refine stStep_of O Wo K c k f _ _ (fun Q => ?_) Q
  unfold stepRes stepRet srcBack
  by_cases h : k.val < 16
  · simp only [if_pos h]; exact stReady_own O Wo K c k h Q
  · simp only [if_neg h]; exact stReady_peer O Wo K c k h Q

/-! ## The end -/

/-- What the last step of chunk `i` needs, and what it leaves. -/
def sentRes (i : Fin 16) : sProp 𝕄 :=
  iprop(cred (tallyAt (gc c (ysS i)) () N) ∗ atPos ER (gc c (ysS i)) 0 ∅ 0
    ∗ cred (tallyAt (gc c (xsS i)) () N) ∗ atPos ER (gc c (xsS i)) 0 ∅ 0)
def sentRet (i : Fin 16) : sProp 𝕄 :=
  iprop(atPos ER (gc c (ysS i)) 1 ∅ 0 ∗ ysP c fullShare {i} (ysV O Wo c)
    ∗ atPos ER (gc c (xsS i)) 1 ∅ 0 ∗ xsP c fullShare.left {i} (xsV O Wo c))

theorem sentCk_wp (i : Fin 16) (Q : PUnit → sProp 𝕄) :
    iprop(invs O Wo K ∗ sentRes c i ∗ ow c 0 ∗ ((sentRet O Wo c i ∗ ow c 0) -∗ Q ⟨⟩)) ⊢ WP c (sentCk i) Q := by
  unfold sentRes sentRet
  show _ ⊢ wp _ _ _ (ckWait (ysS i) yrM ysM i >>= fun _ => ckWait (xsS i) xrM xsM i) Q
  simp only [wp_bind]
  iintro ⟨#HI, ⟨Hc1, Ha1, Hc2, Ha2⟩, HO, HQ⟩
  iapply (ckWait_wp O Wo K c (ysS i) (rounds_ys i) (ys_own c i) yrM ysM i 0)
  isplitr; · iexact HI
  isplitr; · rw [MayWait_zero]; iempintro
  isplitl [Hc1]; · iexact Hc1
  isplitl [HO]; · iexact HO
  isplitl [Ha1]; · iexact Ha1
  iintro ⟨HO, Ha1, -, Hy⟩
  ihave Hy := (Entails.of_eq (pay_ys O Wo c i)) $$ Hy
  iapply (ckWait_wp O Wo K c (xsS i) (rounds_xs i) (xs_own c i) xrM xsM i 0)
  isplitr; · iexact HI
  isplitr; · rw [MayWait_zero]; iempintro
  isplitl [Hc2]; · iexact Hc2
  isplitl [HO]; · iexact HO
  isplitl [Ha2]; · iexact Ha2
  iintro ⟨HO, Ha2, -, Hx⟩
  ihave Hx := (Entails.of_eq (pay_xs O Wo c i)) $$ Hx
  iapply HQ
  isplitl [Ha1 Hy Ha2 Hx]
  · isplitl [Ha1]; · iexact Ha1
    isplitl [Hy]; · iexact Hy
    isplitl [Ha2]; · iexact Ha2
    iexact Hx
  iexact HO

end Cert.KernelIdeal.Own
end
-- ==== Proof.Body.lean ====
/- The buffers cut into chunks, the phases of the kernel, and the whole body. -/
module

public import proofs.«01_k».proof.Proof.Steps2

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (O : Dev nD → S2x1024x1024.Idx → Elt F .f32) (Wo : Dev nD → S1024x2048.Idx → Elt F .f32)
variable (K : GSem nD τ sig → ℕ) (c : Dev nD)

/-! ## Lists of chunks -/

abbrev l16 : List (Fin 16) := [0, 1, 2, 3, 4, 5, 6, 7, 8, 9, 10, 11, 12, 13, 14, 15]
abbrev l32 : List (Fin 32) := [0, 1, 2, 3, 4, 5, 6, 7, 8, 9, 10, 11, 12, 13, 14, 15, 16, 17, 18, 19, 20, 21, 22, 23, 24, 25, 26, 27, 28, 29, 30, 31]
abbrev l30 : List (Fin 32) := [0, 1, 2, 3, 4, 5, 6, 7, 8, 9, 10, 11, 12, 13, 14, 15, 16, 17, 18, 19, 20, 21, 22, 23, 24, 25, 26, 27, 28, 29]
abbrev rest0 : List (Fin 16) := [1, 2, 3, 4, 5, 6, 7]
abbrev rest1 : List (Fin 16) := [9, 10, 11, 12, 13, 14, 15]

section Lists
variable {M : Type} [URA M]

theorem univ16 (Φ : Fin 16 → sProp M) : bigSep Finset.univ Φ = bigSepL l16 Φ := bigSep_univ_eq_bigSepL l16 (by decide) (by decide) Φ
theorem univ32 (Φ : Fin 32 → sProp M) : bigSep Finset.univ Φ = bigSepL l32 Φ := bigSep_univ_eq_bigSepL l32 (by decide) (by decide) Φ
theorem restL0 (Φ : Fin 16 → sProp M) : bigSep (restCk 0) Φ = bigSepL rest0 Φ := bigSep_eq_bigSepL_of_eq rest0 (by decide) (by decide) Φ
theorem restL1 (Φ : Fin 16 → sProp M) : bigSep (restCk 1) Φ = bigSepL rest1 Φ := bigSep_eq_bigSepL_of_eq rest1 (by decide) (by decide) Φ

/-- The sixteen chunks, by the blocks the products fill. -/
theorem univ_parts (Φ : Fin 16 → sProp M) :
    bigSep Finset.univ Φ = iprop(Φ 0 ∗ bigSep (restCk 0) Φ ∗ Φ 8 ∗ bigSep (restCk 1) Φ) := by
  rw [univ16, restL0, restL1, show l16 = (0 : Fin 16) :: (rest0 ++ (8 : Fin 16) :: rest1) from rfl, bigSepL_cons' (0 : Fin 16), bigSepL_append,
    bigSepL_cons' (8 : Fin 16)]
theorem univ_batches (Φ : Fin 16 → sProp M) :
    bigSep Finset.univ Φ = iprop(bigSep (batchCk 0) Φ ∗ bigSep (batchCk 1) Φ) := by
  rw [univ16, bigSep_eq_bigSepL_of_eq (S := batchCk 0) ((0 : Fin 16) :: rest0) (by decide) (by decide) Φ,
    bigSep_eq_bigSepL_of_eq (S := batchCk 1) ((8 : Fin 16) :: rest1) (by decide) (by decide) Φ,
    show l16 = ((0 : Fin 16) :: rest0) ++ ((8 : Fin 16) :: rest1) from rfl, bigSepL_append]

def loK (i : Fin 16) : Fin 32 := ⟨i.val, by omega⟩
def hiK (i : Fin 16) : Fin 32 := ⟨i.val + 16, by omega⟩

/-- The copies into the result: sixteen of the own sums, then sixteen of the peer's. -/
theorem univ32_split (Φ Ψ : Fin 16 → sProp M) :
    bigSep Finset.univ (fun k : Fin 32 => if k.val < 16 then Φ (stIx k) else Ψ (stIx k))
      = iprop(bigSep Finset.univ Φ ∗ bigSep Finset.univ Ψ) := by
  rw [univ32, univ16, univ16, show l32 = l16.map loK ++ l16.map hiK from rfl, bigSepL_append, bigSepL_map, bigSepL_map]
  have e1 : (fun i : Fin 16 => if (loK i).val < 16 then Φ (stIx (loK i)) else Ψ (stIx (loK i))) = Φ := funext fun i => by
    rw [if_pos (show (loK i).val < 16 from i.isLt)]
    exact congrArg Φ (Fin.ext (Nat.mod_eq_of_lt i.isLt))
  have e2 : (fun i : Fin 16 => if (hiK i).val < 16 then Φ (stIx (hiK i)) else Ψ (stIx (hiK i))) = Ψ := funext fun i => by
    rw [if_neg (show ¬ (hiK i).val < 16 by show ¬ i.val + 16 < 16; omega)]
    exact congrArg Ψ (Fin.ext (show (i.val + 16) % 16 = i.val by have := i.isLt; omega))
  rw [e1, e2]

end Lists

/-- All but the last two copies hand over at a later step, the last two at the end. -/
theorem done_all : iprop(bigSep Finset.univ (done O Wo c) ∗ stPay O Wo c 30 ∗ stPay O Wo c 31)
    ⊢ (bigSep Finset.univ (stPay O Wo c) : sProp 𝕄) := by
  rw [univ32, univ32, show l32 = (0 : Fin 32) :: 1 :: l30.map (fun k => ix32 (k.val + 2)) from rfl,
    bigSepL_cons', bigSepL_cons', bigSepL_map]
  have h : bigSepL l30 (fun k => done O Wo c (ix32 (k.val + 2))) ⊢ (bigSepL l30 (stPay O Wo c) : sProp 𝕄) :=
    bigSepL_mono fun k hk => by
      have hk : k.val < 30 := (by decide : ∀ k ∈ l30, k.val < 30) k hk
      have e : (ix32 (k.val + 2)).val = k.val + 2 := Nat.mod_eq_of_lt (by omega)
      unfold done
      rw [if_pos (by rw [e]; omega), e, show ix32 (k.val + 2 - 2) = k from Fin.ext (Nat.mod_eq_of_lt (by omega))]
  rw [← show l32 = (0 : Fin 32) :: 1 :: l30.map (fun k => ix32 (k.val + 2)) from rfl, show l32 = l30 ++ [30, 31] from rfl, bigSepL_append,
    bigSepL_cons' (30 : Fin 32) [31], bigSepL_singleton]
  iintro ⟨⟨-, -, Hd⟩, H30, H31⟩
  isplitl [Hd]; · iapply h; iexact Hd
  isplitl [H30]; · iexact H30
  iexact H31

/-! ## The buffers cut into chunks -/

theorem cks_biUnion (s : Finset (Fin 16)) : s.biUnion (fun i => cks {i}) = cks s := by
  ext p; simp only [Finset.mem_biUnion, mem_cks, Finset.mem_singleton]
  exact ⟨fun ⟨i, hi, e⟩ => e ▸ hi, fun h => ⟨_, h, rfl⟩⟩
theorem cks_disj (i j : Fin 16) (h : i ≠ j) : Disjoint (cks {i}) (cks {j}) :=
  Finset.disjoint_left.2 fun p hi hj => h (by
    rw [mem_cks, Finset.mem_singleton] at hi hj; rw [← hi, ← hj])
theorem cks_univ : cks Finset.univ = Finset.univ := Finset.filter_true_of_mem fun p _ => Finset.mem_univ _
theorem outs_biUnion : Finset.univ.biUnion (outs c) = Finset.univ := by
  ext p; simp only [Finset.mem_biUnion, outs, Finset.mem_filter, Finset.mem_univ, true_and, exists_eq']
theorem outs_disj (k j : Fin 32) (h : k ≠ j) : Disjoint (outs c k) (outs c j) :=
  Finset.disjoint_left.2 fun p hk hj => h (by
    rw [outs, Finset.mem_filter] at hk hj; rw [← hk.2, ← hj.2])

theorem ysP_chunks (q : PosShare TreeShare) (s : Finset (Fin 16)) (f : Buf3 F) :
    (ysP c q s f : sProp 𝕄) = bigSep s fun i => ysP c q {i} f :=
  (congrArg (fun S => (ysM.view.loc (c : Thread nD τ) ↦[S]{q} f : sProp 𝕄)) (cks_biUnion s).symm).trans
    (pointsTo_biUnion s _ fun i _ j _ h => cks_disj i j h)
theorem yrP_chunks (q : PosShare TreeShare) (s : Finset (Fin 16)) (f : Buf3 F) :
    (yrP c q s f : sProp 𝕄) = bigSep s fun i => yrP c q {i} f :=
  (congrArg (fun S => (yrM.view.loc (c : Thread nD τ) ↦[S]{q} f : sProp 𝕄)) (cks_biUnion s).symm).trans
    (pointsTo_biUnion s _ fun i _ j _ h => cks_disj i j h)
theorem xsP_chunks (q : PosShare TreeShare) (s : Finset (Fin 16)) (f : Buf3 F) :
    (xsP c q s f : sProp 𝕄) = bigSep s fun i => xsP c q {i} f :=
  (congrArg (fun S => (xsM.view.loc (c : Thread nD τ) ↦[S]{q} f : sProp 𝕄)) (cks_biUnion s).symm).trans
    (pointsTo_biUnion s _ fun i _ j _ h => cks_disj i j h)
theorem xrP_chunks (q : PosShare TreeShare) (s : Finset (Fin 16)) (f : Buf3 F) :
    (xrP c q s f : sProp 𝕄) = bigSep s fun i => xrP c q {i} f :=
  (congrArg (fun S => (xrM.view.loc (c : Thread nD τ) ↦[S]{q} f : sProp 𝕄)) (cks_biUnion s).symm).trans
    (pointsTo_biUnion s _ fun i _ j _ h => cks_disj i j h)
theorem owP_chunks (q : PosShare TreeShare) (s : Finset (Fin 16)) (f : Buf3 F) :
    (owP c q s f : sProp 𝕄) = bigSep s fun i => owP c q {i} f :=
  (congrArg (fun S => (owM.view.loc (c : Thread nD τ) ↦[S]{q} f : sProp 𝕄)) (cks_biUnion s).symm).trans
    (pointsTo_biUnion s _ fun i _ j _ h => cks_disj i j h)
theorem outP_chunks (f : S2x512x2048.Idx → Elt F .f32) :
    ((Memref.whole main_v2).view.loc (c : Thread nD τ) ↦[(Finset.univ : Finset S2x512x2048.Idx)]{fullShare} f : sProp 𝕄)
      = bigSep Finset.univ fun k => outP c k f :=
  (congrArg (fun S => ((Memref.whole main_v2).view.loc (c : Thread nD τ) ↦[S]{fullShare} f : sProp 𝕄)) (outs_biUnion c).symm).trans
    (pointsTo_biUnion _ _ fun i _ j _ h => outs_disj c i j h)

/-- The first exchange's send buffer, by the blocks the products fill; the own products, by theirs. -/
theorem ysP_parts (f : Buf3 F) : (ysP c fullShare Finset.univ f : sProp 𝕄)
    = iprop(ysP c fullShare {0} f ∗ ysP c fullShare (restCk 0) f ∗ ysP c fullShare {8} f ∗ ysP c fullShare (restCk 1) f) := by
  rw [ysP_chunks, univ_parts, ← ysP_chunks, ← ysP_chunks]
theorem owP_parts (f : Buf3 F) : (owP c fullShare Finset.univ f : sProp 𝕄)
    = iprop(owP c fullShare (batchCk 0) f ∗ owP c fullShare (batchCk 1) f) := by
  rw [owP_chunks, univ_batches, ← owP_chunks, ← owP_chunks]

/-! ## The handshake -/

/-- A device's receive buffers, at any contents, their arrivals open: what it hands its peers. -/
def yrAny : sProp 𝕄 := bigSep Finset.univ fun i : Fin 16 => iprop((∃ f, yrP c fullShare {i} f) ∗ reached ER (gc c (yrS i)) 0)
def xrAny : sProp 𝕄 := bigSep Finset.univ fun i : Fin 16 => iprop((∃ f, xrP c fullShare {i} f) ∗ reached ER (gc c (xrS i)) 0)

theorem yBar_eq : (yBar c : sProp 𝕄) = yrAny (yp c) := rfl
theorem xBar_eq : (xBar c : sProp 𝕄) = xrAny (xp c) := rfl

theorem yBar_paid : (yrAny c : sProp 𝕄) = (Rd O Wo).payload (barCell (yp c)) 0 false := by
  show _ = (yrAny (yp (yp c)) : sProp 𝕄); rw [yp_yp]
theorem xBar_paid : (xrAny c : sProp 𝕄) = (Rd O Wo).payload (barCell (xp c)) 0 true := by
  show _ = (xrAny (xp (xp c)) : sProp 𝕄); rw [xp_xp]

/-- What the handshake needs: the own position, and the right to signal both peers. -/
def shakeRes : sProp 𝕄 :=
  iprop(cred (tallyAt (barCell c) () 2) ∗ atPos ER (barCell c) 0 ∅ 0
    ∗ dutyTok ER (barCell (yp c)) 0 false ∗ reached ER (barCell (yp c)) 0
    ∗ dutyTok ER (barCell (xp c)) 0 true ∗ reached ER (barCell (xp c)) 0)

theorem shake_wp (Q : PUnit → sProp 𝕄) :
    iprop((invs O Wo K ∗ levAts L lv) ∗ shakeRes c ∗ (yrAny c ∗ xrAny c) ∗ ow c (O₀ c)
        ∗ ((atPos ER (barCell c) 1 ∅ 0 ∗ (yrAny (yp c) ∗ xrAny (xp c)) ∗ ow c (yO c 0 + xO c 0)) -∗ Q ⟨⟩))
      ⊢ WP c (shake c) Q := by
  unfold shake semSignalWord semWaitWord shakeRes ow
  rw [show (1#32 : BitVec 32).toInt = ((1 : ℕ) : ℤ) from by decide, show (2#32 : BitVec 32).toInt = ((2 : ℕ) : ℤ) from by decide,
    dev1_eq, dev2_eq]
  simp only [wp_bind]
  iintro ⟨⟨#HI, #HL⟩, ⟨Hc, Hat, Hty, #Hry, Htx, #Hrx⟩, ⟨Hy, Hx⟩, ⟨%W, HO⟩, HQ⟩
  iapply (Rounds.wp_signal 𝒱₀ ER (Rd O Wo) (c : Thread nD τ) none (dst := (yp c : Thread nD τ)) (sem := barS) (r := 0) (d := false)
      (κ := K (barCell (yp c))) (by rw [duties_bar]; decide) rfl () (O₀ := O₀ c) (yO c 0 + xO c 0 + tallyAt (barCell (xp c)) () 1) rfl (W := W))
    $$ [HO Hty Hy]
  · isplitr; · iapply (inv_at O Wo K (bar_own (yp c))); iexact HI
    isplitl [HO]; · iexact HO
    isplitl [Hty]; · iexact Hty
    isplitl [Hy]
    · ihave Hy := (Entails.of_eq (yBar_paid O Wo c)) $$ Hy
      iexact Hy
    iexact Hry
  iintro HO
  rw [wp_ret]
  imodintro
  iapply (Rounds.wp_signal 𝒱₀ ER (Rd O Wo) (c : Thread nD τ) none (dst := (xp c : Thread nD τ)) (sem := barS) (r := 0) (d := true)
      (κ := K (barCell (xp c))) (by rw [duties_bar]; decide) rfl () (yO c 0 + xO c 0) rfl (W := W))
    $$ [HO Htx Hx]
  · isplitr; · iapply (inv_at O Wo K (bar_own (xp c))); iexact HI
    isplitl [HO]; · iexact HO
    isplitl [Htx]; · iexact Htx
    isplitl [Hx]
    · ihave Hx := (Entails.of_eq (xBar_paid O Wo c)) $$ Hx
      iexact Hx
    iexact Hrx
  iintro HO
  rw [wp_ret]
  imodintro
  iapply (Rounds.wp_wait_rest_token 𝒱₀ ER (Rd O Wo) (c : Thread nD τ) none (κ := K (barCell c))
      (wpE_semWait_eq 𝒱₀ (c : Thread nD τ) none Set.univ) (Set.mem_univ _) () (O := yO c 0 + xO c 0) (W := W) (R := 0) (m := 0) (T := ∅)
      ((Nat.zero_add 2).trans (expect_bar O Wo c).symm)) $$ [Hc HO Hat]
  · isplitr; · iapply (inv_at O Wo K (bar_own c)); iexact HI
    isplitl [Hc]; · iexact Hc
    isplitl [HO]; · iexact HO
    isplitr
    · iapply (mayWait_of c (.reg barS) 0 0 1 (Nat.le_of_eq rfl) (fun h => by decide) (by decide))
      iexact HL
    iexact Hat
  iintro ⟨HO, Hat, -, Hp⟩
  ihave Hp := (Entails.of_eq (rest_bar O Wo c)) $$ Hp
  rw [wp_ret]
  imodintro
  iapply HQ
  isplitl [Hat]; · iexact Hat
  isplitl [Hp]; · iexact Hp
  iexists _; iexact HO

/-! ## The products and the first exchange's sends -/

abbrev ysCred (i : Fin 16) : sProp 𝕄 := cred (tallyAt (gc c (ysS i)) () N)

/-- One batch: its first chunk is computed and sent, then the others. -/
theorem batch_wp (q : PosShare TreeShare) (b : Fin 2) (i₀ : Fin 16) (hi : i₀ = ⟨8 * b.val, by omega⟩) (l : List (Fin 16))
    (hl : ∀ Φ : Fin 16 → sProp 𝕄, bigSep (restCk b) Φ = bigSepL l Φ) (hr : l.map Fin.val = List.range' (8 * b.val + 1) l.length)
    (h7 : l.length = 7) (f : Buf3 F) (Q : PUnit → sProp 𝕄) :
    iprop(invs O Wo K ∗ oP O c q ∗ ysP c fullShare {i₀} f ∗ ysP c fullShare (restCk b) f
        ∗ yRes c i₀ ∗ bigSep (restCk b) (yRes c) ∗ ow c (yO c (8 * b.val) + xO c 0)
        ∗ ((oP O c q ∗ ysCred c i₀ ∗ bigSep (restCk b) (ysCred c) ∗ ow c (yO c (8 * b.val + 8) + xO c 0)) -∗ Q ⟨⟩))
      ⊢ WP c (fillA oM (k0_pay1 (Wo c)) c b) fun _ => WP c (ySend c i₀) fun _ =>
          WP c (fillB oM (k0_pay1 (Wo c)) c b) fun _ => WP c (each (ySend c) l) Q := by
  subst hi
  iintro ⟨#HI, Ho, Hy, Hys, Hr, Hrs, HO, HQ⟩
  iapply (fillA_wp O Wo c q b f)
  isplitl [Ho]; · iexact Ho
  isplitl [Hy]; · iexact Hy
  iintro ⟨Ho, Hy⟩
  iapply (ySend_wp O Wo K c _ 0)
  isplitr; · iexact HI
  isplitl [Hr Hy]
  · isplitl [Hr]; · iexact Hr
    iexact Hy
  isplitl [HO]; · iexact HO
  iintro ⟨Hc, HO⟩
  iapply (fillB_wp O Wo c q b f)
  isplitl [Ho]; · iexact Ho
  isplitl [Hys]; · iexact Hys
  iintro ⟨Ho, Hys⟩
  ihave Hys := (Entails.of_eq (ysP_chunks c fullShare (restCk b) (ysV O Wo c))) $$ Hys
  iapply (each_wp c (ySend c) (invs O Wo K) (fun i => iprop(yRes c i ∗ ysP c fullShare {i} (ysV O Wo c))) (ysCred c)
    (fun n => ow c (yO c n + xO c 0)) (fun i Q => ySend_wp O Wo K c i 0 Q) l (8 * b.val + 1) hr Q)
  rw [← hl, ← hl, bigSep_sep', h7]
  isplitr; · iexact HI
  isplitl [Hrs Hys]
  · isplitl [Hrs]; · iexact Hrs
    iexact Hys
  isplitl [HO]; · iexact HO
  iintro ⟨Hcs, HO⟩
  iapply HQ
  isplitl [Ho]; · iexact Ho
  isplitl [Hc]; · iexact Hc
  isplitl [Hcs]; · iexact Hcs
  iexact HO

theorem phaseY_wp (q : PosShare TreeShare) (Q : PUnit → sProp 𝕄) :
    iprop(invs O Wo K ∗ oP O c q ∗ (∃ f, ysP c fullShare Finset.univ f) ∗ (∃ f, owP c fullShare Finset.univ f)
        ∗ bigSep Finset.univ (yRes c) ∗ ow c (yO c 0 + xO c 0)
        ∗ ((oP O c q ∗ bigSep Finset.univ (ysCred c) ∗ owP c fullShare Finset.univ (owV O Wo c) ∗ ow c (yO c 16 + xO c 0)) -∗ Q ⟨⟩))
      ⊢ WP c (phaseY oM (k0_pay1 (Wo c)) c) Q := by
  unfold phaseY
  simp only [wp_bind]
  iintro ⟨#HI, Ho, ⟨%f, Hy⟩, ⟨%g, Hw⟩, Hr, HO, HQ⟩
  ihave Hy := (Entails.of_eq (ysP_parts c f)) $$ Hy
  icases Hy with ⟨Hy0, Hy1, Hy2, Hy3⟩
  ihave Hw := (Entails.of_eq (owP_parts c g)) $$ Hw
  icases Hw with ⟨Hw0, Hw1⟩
  ihave Hr := (Entails.of_eq (univ_parts (yRes (F := F) c))) $$ Hr
  icases Hr with ⟨Hr0, Hr1, Hr2, Hr3⟩
  iapply (batch_wp O Wo K c q 0 0 rfl rest0 restL0 rfl rfl f)
  isplitr; · iexact HI
  isplitl [Ho]; · iexact Ho
  isplitl [Hy0]; · iexact Hy0
  isplitl [Hy1]; · iexact Hy1
  isplitl [Hr0]; · iexact Hr0
  isplitl [Hr1]; · iexact Hr1
  isplitl [HO]; · iexact HO
  iintro ⟨Ho, Hc0, Hc1, HO⟩
  iapply (batch_wp O Wo K c q 1 8 rfl rest1 restL1 rfl rfl f)
  isplitr; · iexact HI
  isplitl [Ho]; · iexact Ho
  isplitl [Hy2]; · iexact Hy2
  isplitl [Hy3]; · iexact Hy3
  isplitl [Hr2]; · iexact Hr2
  isplitl [Hr3]; · iexact Hr3
  isplitl [HO]; · iexact HO
  iintro ⟨Ho, Hc2, Hc3, HO⟩
  iapply (fillC_wp O Wo c q 0 g)
  isplitl [Ho]; · iexact Ho
  isplitl [Hw0]; · iexact Hw0
  iintro ⟨Ho, Hw0⟩
  iapply (fillC_wp O Wo c q 1 g)
  isplitl [Ho]; · iexact Ho
  isplitl [Hw1]; · iexact Hw1
  iintro ⟨Ho, Hw1⟩
  iapply HQ
  isplitl [Ho]; · iexact Ho
  isplitl [Hc0 Hc1 Hc2 Hc3]
  · rw [univ_parts]
    isplitl [Hc0]; · iexact Hc0
    isplitl [Hc1]; · iexact Hc1
    isplitl [Hc2]; · iexact Hc2
    iexact Hc3
  isplitl [Hw0 Hw1]
  · rw [owP_parts]
    isplitl [Hw0]; · iexact Hw0
    iexact Hw1
  iexact HO

end Cert.KernelIdeal.Own
end
-- ==== Proof.Body2.lean ====
/- The whole body of the kernel: what a device starts with, and what it ends with. -/
module

public import proofs.«01_k».proof.Proof.Body

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (O : Dev nD → S2x1024x1024.Idx → Elt F .f32) (Wo : Dev nD → S1024x2048.Idx → Elt F .f32)
variable (K : GSem nD τ sig → ℕ) (c : Dev nD)

/-! ## What a device starts with -/

/-- What the first exchange's send of chunk `i` needs of the own device. -/
def yTok (i : Fin 16) : sProp 𝕄 :=
  iprop(dutyTok ER (gc (yp c) (yrS i)) 0 false ∗ dutyTok ER (gc c (ysS i)) 0 false ∗ reached ER (gc c (ysS i)) 0)
/-- What the second exchange's send of chunk `i` needs of the own device. -/
def xTok (i : Fin 16) : sProp 𝕄 :=
  iprop(dutyTok ER (gc (xp c) (xrS i)) 0 false ∗ dutyTok ER (gc c (xsS i)) 0 false ∗ reached ER (gc c (xsS i)) 0)
def yrPos (i : Fin 16) : sProp 𝕄 := iprop(cred (tallyAt (gc c (yrS i)) () N) ∗ atPos ER (gc c (yrS i)) 0 ∅ 0)
def sentPos (i : Fin 16) : sProp 𝕄 := iprop(atPos ER (gc c (ysS i)) 0 ∅ 0 ∗ atPos ER (gc c (xsS i)) 0 ∅ 0)
def stTok (k : Fin 32) : sProp 𝕄 := dutyTok ER (gc c (stN k.val)) (k.val / 2) false

/-- Positions, tokens and credits a device starts with. -/
def tokens : sProp 𝕄 :=
  iprop(shakeRes c ∗ bigSep Finset.univ (yTok c) ∗ bigSep Finset.univ (xTok c) ∗ bigSep Finset.univ (yrPos c)
    ∗ bigSep Finset.univ (peerRes c) ∗ bigSep Finset.univ (sentPos c) ∗ (slot c 0 ∗ slot c 1) ∗ bigSep Finset.univ (stTok c))

/-- The positions it ends with. -/
def ended : sProp 𝕄 :=
  iprop(atPos ER (barCell c) 1 ∅ 0 ∗ (bigSep Finset.univ fun i : Fin 16 => atPos ER (gc c (yrS i)) 1 ∅ 0)
    ∗ (bigSep Finset.univ fun i : Fin 16 => atPos ER (gc c (xrS i)) 1 ∅ 0)
    ∗ (bigSep Finset.univ fun i : Fin 16 => atPos ER (gc c (ysS i)) 1 ∅ 0)
    ∗ (bigSep Finset.univ fun i : Fin 16 => atPos ER (gc c (xsS i)) 1 ∅ 0)
    ∗ atPos ER (gc c (stN 0)) 16 ∅ 0 ∗ atPos ER (gc c (stN 1)) 16 ∅ 0)

/-- The result on device `c`, at contents `f`. -/
abbrev outW (f : S2x512x2048.Idx → Elt F .f32) : sProp 𝕄 :=
  (Memref.whole main_v2).view.loc (c : Thread nD τ) ↦[(Finset.univ : Finset S2x512x2048.Idx)]{fullShare} f
/-- The staged rows of the weights on device `c`. -/
abbrev wP (q : PosShare TreeShare) : sProp 𝕄 := wM.view.loc (c : Thread nD τ) ↦[Finset.univ]{q} Wo c

/-! ## Regrouping -/

theorem each_mono {I : Type} {s : Finset I} {Φ Ψ : I → sProp 𝕄} (h : ∀ i, Φ i ⊢ Ψ i) : bigSep s Φ ⊢ bigSep s Ψ :=
  bigSep_mono fun i _ => h i

theorem mk_yRes : iprop(yrAny (yp c) ∗ bigSep Finset.univ (yTok c)) ⊢ (bigSep Finset.univ (yRes c) : sProp 𝕄) := by
  unfold yrAny
  rw [← bigSep_sep']
  refine each_mono fun i => ?_
  unfold yTok yRes
  exact sep_assoc.1

theorem xs_any : iprop(∃ f, xsP c fullShare Finset.univ f) ⊢ (bigSep Finset.univ fun i : Fin 16 => iprop(∃ f, xsP c fullShare {i} f) : sProp 𝕄) := by
  iintro ⟨%f, H⟩
  ihave H := (Entails.of_eq (xsP_chunks c fullShare Finset.univ f)) $$ H
  iapply (each_mono fun i => (by iintro H; iexists f; iexact H :
    (xsP c fullShare {i} f : sProp 𝕄) ⊢ iprop(∃ f, xsP c fullShare {i} f)))
  iexact H

theorem mk_ownRes : iprop(bigSep Finset.univ (yrPos c) ∗ (∃ f, xsP c fullShare Finset.univ f) ∗ owP c fullShare Finset.univ (owV O Wo c)
      ∗ xrAny (xp c) ∗ bigSep Finset.univ (xTok c)) ⊢ (bigSep Finset.univ (ownRes O Wo c) : sProp 𝕄) := by
  refine (sep_mono_right (sep_mono (xs_any c) (sep_mono_left (Entails.of_eq (owP_chunks c fullShare Finset.univ (owV O Wo c)))))).trans ?_
  unfold xrAny
  rw [← bigSep_sep', ← bigSep_sep', ← bigSep_sep', ← bigSep_sep']
  refine each_mono fun i => ?_
  unfold yrPos ownRes xTok xRes
  exact sep_assoc.1.trans (sep_mono_right (sep_mono_right (sep_mono_right (sep_mono_right sep_assoc.1))))

theorem mk_steps (f : S2x512x2048.Idx → Elt F .f32) :
    iprop(bigSep Finset.univ (ownRes O Wo c) ∗ bigSep Finset.univ (peerRes c) ∗ bigSep Finset.univ (stTok c) ∗ outW c f)
      ⊢ (bigSepL l32 (fun k => iprop(stepRes O Wo c k ∗ stRes c f k)) : sProp 𝕄) := by
  rw [← univ32, bigSep_sep', show (bigSep Finset.univ (stepRes O Wo c) : sProp 𝕄) = _ from univ32_split (ownRes O Wo c) (peerRes c)]
  refine sep_assoc.2.trans (sep_mono_right ?_)
  refine (sep_mono_right (Entails.of_eq (outP_chunks c f))).trans ?_
  rw [← bigSep_sep']
  exact BI.Entails.refl _

/-- What the last loop leaves, beside the credits of the second exchange's sends: every position, and the buffers. -/
theorem of_steps :
    iprop(bigSepL l32 (fun k => iprop(stepRet O Wo c k ∗ done O Wo c k)) ∗ stPay O Wo c 30 ∗ stPay O Wo c 31)
      ⊢ (iprop((bigSep Finset.univ fun i : Fin 16 => atPos ER (gc c (yrS i)) 1 ∅ 0) ∗ yrP c fullShare Finset.univ (ysV O Wo (yp c))
          ∗ owP c fullShare Finset.univ (owV O Wo c) ∗ (bigSep Finset.univ fun i : Fin 16 => cred (tallyAt (gc c (xsS i)) () N))
          ∗ (bigSep Finset.univ fun i : Fin 16 => atPos ER (gc c (xrS i)) 1 ∅ 0)
          ∗ outW c (outV O Wo c) ∗ xsP c fullShare.right Finset.univ (xsV O Wo c) ∗ xrP c fullShare Finset.univ (xsV O Wo (xp c))) : sProp 𝕄) := by
  rw [← univ32, bigSep_sep', show (bigSep Finset.univ (stepRet O Wo c) : sProp 𝕄) = _ from univ32_split (ownRet O Wo c) (peerRet c)]
  have e1 : (bigSep Finset.univ (ownRet O Wo c) : sProp 𝕄) = iprop((bigSep Finset.univ fun i : Fin 16 => atPos ER (gc c (yrS i)) 1 ∅ 0)
      ∗ yrP c fullShare Finset.univ (ysV O Wo (yp c)) ∗ owP c fullShare Finset.univ (owV O Wo c)
      ∗ (bigSep Finset.univ fun i : Fin 16 => cred (tallyAt (gc c (xsS i)) () N))) := by
    rw [yrP_chunks, owP_chunks, ← bigSep_sep', ← bigSep_sep', ← bigSep_sep']; rfl
  have e2 : (bigSep Finset.univ (stPay O Wo c) : sProp 𝕄) = iprop(outW c (outV O Wo c) ∗ xsP c fullShare.right Finset.univ (xsV O Wo c)
      ∗ xrP c fullShare Finset.univ (xsV O Wo (xp c))) := by
    rw [show outW c (outV O Wo c) = _ from outP_chunks c (outV O Wo c), xsP_chunks, xrP_chunks, ← univ32_split, ← bigSep_sep']; rfl
  refine (sep_assoc.1.trans (sep_mono_right (done_all O Wo c))).trans ?_
  rw [e1, e2]
  iintro ⟨⟨⟨Ha, Hy, Hw, Hc⟩, Hx⟩, Ho, Hl, Hr⟩
  isplitl [Ha]; · iexact Ha
  isplitl [Hy]; · iexact Hy
  isplitl [Hw]; · iexact Hw
  isplitl [Hc]; · iexact Hc
  isplitl [Hx]; · iexact Hx
  isplitl [Ho]; · iexact Ho
  isplitl [Hl]; · iexact Hl
  iexact Hr

theorem mk_sent : iprop(bigSep Finset.univ (ysCred c) ∗ bigSep Finset.univ (sentPos c)
      ∗ (bigSep Finset.univ fun i : Fin 16 => cred (tallyAt (gc c (xsS i)) () N))) ⊢ (bigSepL l16 (sentRes c) : sProp 𝕄) := by
  rw [← univ16, ← bigSep_sep', ← bigSep_sep']
  refine each_mono fun i => ?_
  unfold ysCred sentPos sentRes
  iintro ⟨Ha, ⟨Hb, Hc⟩, Hd⟩
  isplitl [Ha]; · iexact Ha
  isplitl [Hb]; · iexact Hb
  isplitl [Hd]; · iexact Hd
  iexact Hc

theorem of_sent : (bigSepL l16 (sentRet O Wo c) : sProp 𝕄)
    = iprop((bigSep Finset.univ fun i : Fin 16 => atPos ER (gc c (ysS i)) 1 ∅ 0) ∗ ysP c fullShare Finset.univ (ysV O Wo c)
      ∗ (bigSep Finset.univ fun i : Fin 16 => atPos ER (gc c (xsS i)) 1 ∅ 0) ∗ xsP c fullShare.left Finset.univ (xsV O Wo c)) := by
  rw [← univ16, ysP_chunks, xsP_chunks, ← bigSep_sep', ← bigSep_sep', ← bigSep_sep']; rfl

/-! ## The whole body -/

theorem wM_read (h : ∀ a, (![0, 0] : Fin 2 → Nat) a + S1024x2048.size a ≤ S1024x2048.size a) (f : S1024x2048.Idx → Elt F .f32) :
    (wM.access (Rect.unit (s := S1024x2048) ![0, 0] S1024x2048.size h)).read (Elt F) f = f :=
  funext fun j => congrArg f (acc_emb cc0_stg1_0 ![0, 0] S1024x2048.size h j j fun a => by
    match a with
    | ⟨0, _⟩ => exact Nat.zero_add _
    | ⟨1, _⟩ => exact Nat.zero_add _)

/-- What the body leaves in the buffers of device `c`. -/
def bodyBufs (q q' : PosShare TreeShare) : sProp 𝕄 :=
  iprop(oP O c q ∗ wP Wo c q' ∗ ysP c fullShare Finset.univ (ysV O Wo c) ∗ yrP c fullShare Finset.univ (ysV O Wo (yp c))
    ∗ xsP c fullShare Finset.univ (xsV O Wo c) ∗ xrP c fullShare Finset.univ (xsV O Wo (xp c))
    ∗ owP c fullShare Finset.univ (owV O Wo c) ∗ outW c (outV O Wo c))

/-- The body of the kernel: from its tokens, the staged arguments and its buffers at any contents, it ends with every
    wait done, nothing owed, and the result at `outV`. -/
theorem kbody_wp (q q' : PosShare TreeShare) (f0 : S2x512x2048.Idx → Elt F .f32) (Q : PUnit → sProp 𝕄) :
    iprop((invs O Wo K ∗ levAts L lv) ∗ tokens c ∗ (yrAny c ∗ xrAny c) ∗ ow c (O₀ c)
        ∗ oP O c q ∗ wP Wo c q' ∗ (∃ f, ysP c fullShare Finset.univ f) ∗ (∃ f, xsP c fullShare Finset.univ f)
        ∗ (∃ f, owP c fullShare Finset.univ f) ∗ outW c f0
        ∗ ((ended c ∗ bodyBufs O Wo c q q' ∗ ow c 0) -∗ Q ⟨⟩))
      ⊢ WP c (kbody oM wM c) Q := by
  unfold kbody tokens
  simp only [wp_bind]
  iintro ⟨⟨#HI, #HL⟩, ⟨Hsh, Hyt, Hxt, Hyr, Hpr, Hsp, ⟨Hs0, Hs1⟩, Hst⟩, Hany, HO, Ho, Hw, Hys, Hxs, Hown, Hout, HQ⟩
  iapply (shake_wp O Wo K c)
  isplitr
  · isplitr; · iexact HI
    iexact HL
  isplitl [Hsh]; · iexact Hsh
  isplitl [Hany]; · iexact Hany
  isplitl [HO]; · iexact HO
  iintro ⟨Hbar, ⟨Hya, Hxa⟩, HO⟩
  unfold Prog.lift
  iapply (wp_load_rect 𝒱₀ (c : Thread nD τ) none Set.univ (m := wM) (r := Rect.unit (s := S1024x2048) ![0, 0] S1024x2048.size inb_S1024x2048_S1024x2048_0_0) (f := Wo c) (q := q') (Finset.subset_univ _)) $$ Hw
  iintro Hw
  rw [wp_ret, wM_read]
  imodintro
  iapply (phaseY_wp O Wo K c q)
  isplitr; · iexact HI
  isplitl [Ho]; · iexact Ho
  isplitl [Hys]; · iexact Hys
  isplitl [Hown]; · iexact Hown
  isplitl [Hya Hyt]
  · iapply (mk_yRes c)
    isplitl [Hya]; · iexact Hya
    iexact Hyt
  isplitl [HO]; · iexact HO
  iintro ⟨Ho, Hyc, Hown, HO⟩
  iapply (each_wp c (stStep c) iprop(invs O Wo K ∗ levAts L lv) (fun k => iprop(stepRes O Wo c k ∗ stRes c f0 k))
    (fun k => iprop(stepRet O Wo c k ∗ done O Wo c k)) (stX c) (fun k Q => stStep_wp O Wo K c f0 k Q) l32 0 rfl)
  isplitr
  · isplitr; · iexact HI
    iexact HL
  isplitl [Hyr Hxs Hown Hxa Hxt Hpr Hst Hout]
  · iapply (mk_steps O Wo c f0)
    isplitl [Hyr Hxs Hown Hxa Hxt]
    · iapply (mk_ownRes O Wo c)
      isplitl [Hyr]; · iexact Hyr
      isplitl [Hxs]; · iexact Hxs
      isplitl [Hown]; · iexact Hown
      isplitl [Hxa]; · iexact Hxa
      iexact Hxt
    isplitl [Hpr]; · iexact Hpr
    isplitl [Hst]; · iexact Hst
    iexact Hout
  isplitl [HO Hs0 Hs1]
  · unfold stX
    isplitl [HO]; · iexact HO
    isplitl [Hs0]; · iexact Hs0
    iexact Hs1
  iintro ⟨HD, HX⟩
  ihave HX := (Entails.of_eq (show stX (F := F) c (0 + l32.length) = iprop(ow c 0 ∗ slot c 32 ∗ slot c 33) by
    unfold stX
    rw [yO_end, show 0 + l32.length = 32 from rfl, xO_end c 32 (by decide), add_zero])) $$ HX
  icases HX with ⟨HO, Hs0, Hs1⟩
  iapply (stWait_wp O Wo K c 30 0)
  isplitr; · iexact HI
  isplitr; · rw [MayWait_zero]; iempintro
  isplitl [Hs0]; · iexact Hs0
  isplitl [HO]; · iexact HO
  iintro ⟨HO, Hf0, Hp30⟩
  iapply (stWait_wp O Wo K c 31 0)
  isplitr; · iexact HI
  isplitr; · rw [MayWait_zero]; iempintro
  isplitl [Hs1]; · iexact Hs1
  isplitl [HO]; · iexact HO
  iintro ⟨HO, Hf1, Hp31⟩
  ihave HD := (of_steps O Wo c) $$ [HD Hp30 Hp31]
  · isplitl [HD]; · iexact HD
    isplitl [Hp30]; · iexact Hp30
    iexact Hp31
  icases HD with ⟨Hyr, Hyrb, Hown, Hxc, Hxr, Hout, Hxsr, Hxrb⟩
  iapply (each_wp c sentCk (invs O Wo K) (sentRes c) (sentRet O Wo c) (fun _ => ow c 0)
    (fun i Q => sentCk_wp O Wo K c i Q) l16 0 rfl)
  isplitr; · iexact HI
  isplitl [Hyc Hsp Hxc]
  · iapply (mk_sent c)
    isplitl [Hyc]; · iexact Hyc
    isplitl [Hsp]; · iexact Hsp
    iexact Hxc
  isplitl [HO]; · iexact HO
  iintro ⟨HS, HO⟩
  ihave HS := (Entails.of_eq (of_sent O Wo c)) $$ HS
  icases HS with ⟨Hysp, Hysb, Hxsp, Hxsl⟩
  iapply HQ
  isplitl [Hbar Hyr Hxr Hysp Hxsp Hf0 Hf1]
  · unfold ended free
    icases Hf0 with ⟨Hf0, -⟩
    icases Hf1 with ⟨Hf1, -⟩
    isplitl [Hbar]; · iexact Hbar
    isplitl [Hyr]; · iexact Hyr
    isplitl [Hxr]; · iexact Hxr
    isplitl [Hysp]; · iexact Hysp
    isplitl [Hxsp]; · iexact Hxsp
    isplitl [Hf0]; · iexact Hf0
    iexact Hf1
  isplitl [Ho Hw Hysb Hyrb Hxsl Hxsr Hxrb Hown Hout]
  · unfold bodyBufs
    isplitl [Ho]; · iexact Ho
    isplitl [Hw]; · iexact Hw
    isplitl [Hysb]; · iexact Hysb
    isplitl [Hyrb]; · iexact Hyrb
    isplitl [Hxsl Hxsr]
    · iapply (pointsTo_share (PosShare.mem_left_op_right fullShare)).2
      isplitl [Hxsl]; · iexact Hxsl
      iexact Hxsr
    isplitl [Hxrb]; · iexact Hxrb
    isplitl [Hown]; · iexact Hown
    iexact Hout
  iexact HO

end Cert.KernelIdeal.Own
end
-- ==== Proof.Cells.lean ====
/- The kernel's own cells as one family: opened at the region's entry, closed at its end, and the credits and
   tokens the launch deals. -/
module

public import proofs.«01_k».proof.Proof.Body2
public import Idealize.ShloMosaic.Lib.Pipeline.RegionTalk
public import Idealize.ShloMosaic.Lib.Rounds.Family

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The copy semaphores of the kernel's own -/

/-- The four families of sixteen, and the two of the copies into the result. -/
abbrev KS : Type := (Fin 4 × Fin 16) ⊕ Fin 2
def kVal : KS → ℕ
  | .inl p => 2 + 16 * p.1.val + p.2.val
  | .inr j => 66 + j.val
theorem kVal_lt (k : KS) : kVal k < 68 := by
  rcases k with ⟨a, i⟩ | j
  · have := a.isLt; have := i.isLt; show 2 + 16 * a.val + i.val < 68; omega
  · have := j.isLt; show 66 + j.val < 68; omega
theorem kVal_ge (k : KS) : 2 ≤ kVal k := by
  rcases k with ⟨a, i⟩ | j
  · show 2 ≤ 2 + 16 * a.val + i.val; omega
  · show 2 ≤ 66 + j.val; omega
theorem kVal_inj : Function.Injective kVal := by
  rintro (⟨a, i⟩ | j) (⟨a', i'⟩ | j') h
  · have := i.isLt; have := i'.isLt
    have h : 2 + 16 * a.val + i.val = 2 + 16 * a'.val + i'.val := h
    exact congrArg Sum.inl (Prod.ext (Fin.ext (by show a.val = a'.val; omega)) (Fin.ext (by show i.val = i'.val; omega)))
  · have := a.isLt; have := i.isLt
    have h : 2 + 16 * a.val + i.val = 66 + j'.val := h
    omega
  · have := a'.isLt; have := i'.isLt
    have h : 66 + j.val = 2 + 16 * a'.val + i'.val := h
    omega
  · have h : 66 + j.val = 66 + j'.val := h
    exact congrArg Sum.inr (Fin.ext (by omega))
def kS (k : KS) : DmaSem sig := ⟨kVal k, kVal_lt k⟩
theorem kS_inj : Function.Injective kS := fun a b h => kVal_inj (congrArg Fin.val h)
def osem (k : KS) : SemLoc sig := .dma (kS k)
theorem osem_inj : Function.Injective osem := fun a b h => kS_inj (SemLoc.dma.inj h)
theorem kS_ys (i : Fin 16) : kS (.inl (0, i)) = ysS i := Fin.ext (by rw [ysS_val]; show 2 + 16 * 0 + i.val = _; omega)
theorem kS_yr (i : Fin 16) : kS (.inl (1, i)) = yrS i := Fin.ext (by rw [yrS_val]; show 2 + 16 * 1 + i.val = _; omega)
theorem kS_xs (i : Fin 16) : kS (.inl (2, i)) = xsS i := Fin.ext (by rw [xsS_val]; show 2 + 16 * 2 + i.val = _; omega)
theorem kS_xr (i : Fin 16) : kS (.inl (3, i)) = xrS i := Fin.ext (by rw [xrS_val]; show 2 + 16 * 3 + i.val = _; omega)
theorem kS_st0 : kS (.inr 0) = stN 0 := rfl
theorem kS_st1 : kS (.inr 1) = stN 1 := rfl

theorem scoped_dma : ∀ s : DmaSem sig, sig.isScopedDmaSem .tc s = true := by decide
theorem win_sem : ∀ (w : Fin 2) (s : Fin (spec0 w).nbuf), ((spec0 w).sem s).val < 2 := by decide
theorem osem_facts : Pipeline.OwnSemFacts spec0 osem where
  isScoped k := scoped_dma (kS k)
  inj := osem_inj
  disj k w s h := by
    have e : kVal k = ((spec0 w).sem s).val := congrArg Fin.val (SemLoc.dma.inj h)
    have h2 := win_sem w s
    have := kVal_ge k
    omega

/-- A family over the copy semaphores, one of its parts at a time. -/
theorem over_KS (Φ : DmaSem sig → sProp 𝕄) : (bigSep Finset.univ fun k : KS => Φ (kS k))
    = iprop(((bigSep Finset.univ fun i : Fin 16 => Φ (ysS i)) ∗ (bigSep Finset.univ fun i : Fin 16 => Φ (yrS i))
        ∗ (bigSep Finset.univ fun i : Fin 16 => Φ (xsS i)) ∗ (bigSep Finset.univ fun i : Fin 16 => Φ (xrS i)))
      ∗ Φ (stN 0) ∗ Φ (stN 1)) := by
  refine (bigSep_univ_sum (fun k : KS => Φ (kS k))).trans ?_
  refine congrArg₂ (fun a b => iprop(a ∗ b)) ?_ (BI.bigSep_fin_two fun j : Fin 2 => Φ (kS (.inr j)))
  rw [bigSep_univ_prod]
  refine (bigSep_univ_eq_bigSepL [(0 : Fin 4), 1, 2, 3] (by decide) (by decide) _).trans ?_
  show iprop((bigSep Finset.univ fun i : Fin 16 => Φ (kS (.inl (0, i)))) ∗ (bigSep Finset.univ fun i : Fin 16 => Φ (kS (.inl (1, i))))
    ∗ (bigSep Finset.univ fun i : Fin 16 => Φ (kS (.inl (2, i)))) ∗ (bigSep Finset.univ fun i : Fin 16 => Φ (kS (.inl (3, i))))) = _
  simp only [kS_ys, kS_yr, kS_xs, kS_xr]

variable (O : Dev nD → S2x1024x1024.Idx → Elt F .f32) (Wo : Dev nD → S1024x2048.Idx → Elt F .f32)
variable (K : GSem nD τ sig → ℕ) (c : Dev nD)

/-! ## Opening -/

/-- The arrivals of both exchanges are open on device `c`. -/
def opened : sProp 𝕄 :=
  iprop((bigSep Finset.univ fun i : Fin 16 => reached ER (gc c (yrS i)) 0) ∗ (bigSep Finset.univ fun i : Fin 16 => reached ER (gc c (xrS i)) 0))

/-- The rights and tokens the launch deals to device `c`. -/
def linear : sProp 𝕄 :=
  iprop(atPos ER (barCell c) 0 ∅ 0 ∗ (bigSep Finset.univ fun k : KS => openTok ER (gc c (kS k)))
    ∗ (dutyTok ER (barCell (yp c)) 0 false ∗ dutyTok ER (barCell (xp c)) 0 true)
    ∗ ((bigSep Finset.univ fun i : Fin 16 => dutyTok ER (gc c (ysS i)) 0 false)
      ∗ (bigSep Finset.univ fun i : Fin 16 => dutyTok ER (gc (yp c) (yrS i)) 0 false)
      ∗ (bigSep Finset.univ fun i : Fin 16 => dutyTok ER (gc c (xsS i)) 0 false)
      ∗ (bigSep Finset.univ fun i : Fin 16 => dutyTok ER (gc (xp c) (xrS i)) 0 false))
    ∗ bigSep Finset.univ (stTok c))

/-- The credits it deals. -/
def credits : sProp 𝕄 :=
  iprop(cred (tallyAt (barCell c) () 2) ∗ (bigSep Finset.univ fun i : Fin 16 => cred (tallyAt (gc c (yrS i)) () N))
    ∗ bigSep Finset.univ fun i : Fin 16 => cred (tallyAt (gc c (xrS i)) () N))

/-- What the launch keeps for the kernel on device `c`. -/
def kept : sProp 𝕄 :=
  iprop((∃ K, invs O Wo K ∗ reached ER (barCell (yp c)) 0 ∗ reached ER (barCell (xp c)) 0 ∗ linear c) ∗ credits c)

/-- What enters the kernel, its cells open. -/
def entered : sProp 𝕄 := iprop(∃ K, (invs O Wo K ∗ levAts L lv) ∗ opened c ∗ tokens c)

theorem own_inv (k : KS) : invs O Wo K ⊢ cellInv ER (Rd O Wo) (K (gc c (kS k))) (gc c (kS k)) :=
  inv_at O Wo K (dma_own c (kS k) (kVal_ge k))

theorem mk_yTok : iprop((bigSep Finset.univ fun i : Fin 16 => dutyTok ER (gc (yp c) (yrS i)) 0 false)
      ∗ (bigSep Finset.univ fun i : Fin 16 => dutyTok ER (gc c (ysS i)) 0 false)
      ∗ (bigSep Finset.univ fun i : Fin 16 => reached ER (gc c (ysS i)) 0)) ⊢ (bigSep Finset.univ (yTok c) : sProp 𝕄) := by
  rw [← bigSep_sep', ← bigSep_sep']; exact BI.Entails.refl _
theorem mk_xTok : iprop((bigSep Finset.univ fun i : Fin 16 => dutyTok ER (gc (xp c) (xrS i)) 0 false)
      ∗ (bigSep Finset.univ fun i : Fin 16 => dutyTok ER (gc c (xsS i)) 0 false)
      ∗ (bigSep Finset.univ fun i : Fin 16 => reached ER (gc c (xsS i)) 0)) ⊢ (bigSep Finset.univ (xTok c) : sProp 𝕄) := by
  rw [← bigSep_sep', ← bigSep_sep']; exact BI.Entails.refl _
theorem mk_yrPos : iprop((bigSep Finset.univ fun i : Fin 16 => cred (tallyAt (gc c (yrS i)) () N))
      ∗ (bigSep Finset.univ fun i : Fin 16 => atPos ER (gc c (yrS i)) 0 ∅ 0)) ⊢ (bigSep Finset.univ (yrPos c) : sProp 𝕄) := by
  rw [← bigSep_sep']; exact BI.Entails.refl _
theorem mk_peerRes : iprop((bigSep Finset.univ fun i : Fin 16 => cred (tallyAt (gc c (xrS i)) () N))
      ∗ (bigSep Finset.univ fun i : Fin 16 => atPos ER (gc c (xrS i)) 0 ∅ 0)) ⊢ (bigSep Finset.univ (peerRes c) : sProp 𝕄) := by
  rw [← bigSep_sep']; exact BI.Entails.refl _
theorem mk_sentPos : iprop((bigSep Finset.univ fun i : Fin 16 => atPos ER (gc c (ysS i)) 0 ∅ 0)
      ∗ (bigSep Finset.univ fun i : Fin 16 => atPos ER (gc c (xsS i)) 0 ∅ 0)) ⊢ (bigSep Finset.univ (sentPos c) : sProp 𝕄) := by
  rw [← bigSep_sep']; exact BI.Entails.refl _

theorem open_cells : iprop(invs O Wo K ∗ (bigSep Finset.univ fun k : KS => openTok ER (gc c (kS k)))
      ∗ (bigSep Finset.univ fun k : KS => semVal (gc c (kS k)) 0))
    ⊢ (|={Set.univ}=> iprop((bigSep Finset.univ fun k : KS => atPos ER (gc c (kS k)) 0 ∅ 0)
        ∗ bigSep Finset.univ fun k : KS => reached ER (gc c (kS k)) 0) : sProp 𝕄) := by
  rw [← bigSep_sep' (Φ := fun k : KS => atPos ER (gc c (kS k)) 0 ∅ 0)]
  iintro ⟨#HI, Ho, Hv⟩
  iapply (Rounds.cells_open ER (Rd O Wo) Finset.univ (fun k : KS => gc c (kS k)) (fun k => K (gc c (kS k))) (Es := Set.univ) fun _ _ => Set.mem_univ _)
  isplitl [Ho]
  · iapply (bigSep_with_persistent (R := invs O Wo K) (Φ := fun k : KS => openTok ER (gc c (kS k))) fun k _ =>
      sep_mono_left (own_inv O Wo K c k))
    isplitr; · iexact HI
    iexact Ho
  iexact Hv

/-- The kernel's cells open, in one update, and everything falls into place. -/
theorem enter : iprop(kept O Wo c ∗ Pipeline.ownSems0 osem c ∗ levAts L lv) ⊢ (|={Set.univ}=> entered O Wo c : sProp 𝕄) := by
  unfold kept linear credits entered tokens opened shakeRes slot Pipeline.ownSems0
  rw [if_pos (by decide : (0 : ℕ) < 2), if_pos (by decide : (1 : ℕ) < 2)]
  iintro ⟨⟨⟨%K, #HI, #Hry, #Hrx, Hbar, Hop, ⟨Hby, Hbx⟩, ⟨Hys, Hyr, Hxs, Hxr⟩, Hst⟩, ⟨Hcb, Hcy, Hcx⟩⟩, Hv, #HL⟩
  imod (open_cells O Wo K c) $$ [Hop Hv] with ⟨Hat, #Hre⟩
  · isplitr; · iexact HI
    isplitl [Hop]; · iexact Hop
    iexact Hv
  ihave Hat := (Entails.of_eq (over_KS fun s => atPos ER (gc c s) 0 ∅ 0)) $$ Hat
  ihave Hre := (Entails.of_eq (over_KS fun s => reached ER (gc c s) 0)) $$ Hre
  icases Hat with ⟨⟨Hays, Hayr, Haxs, Haxr⟩, Ha0, Ha1⟩
  icases Hre with ⟨⟨#Hrys, #Hryr, #Hrxs, #Hrxr⟩, #Hr0, #Hr1⟩
  imodintro
  iexists K
  isplitr
  · isplitr; · iexact HI
    iexact HL
  isplitr
  · isplitr; · iexact Hryr
    iexact Hrxr
  isplitl [Hcb Hbar Hby Hbx]
  · isplitl [Hcb]; · iexact Hcb
    isplitl [Hbar]; · iexact Hbar
    isplitl [Hby]; · iexact Hby
    isplitr; · iexact Hry
    isplitl [Hbx]; · iexact Hbx
    iexact Hrx
  isplitl [Hyr Hys]
  · iapply (mk_yTok c)
    isplitl [Hyr]; · iexact Hyr
    isplitl [Hys]; · iexact Hys
    iexact Hrys
  isplitl [Hxr Hxs]
  · iapply (mk_xTok c)
    isplitl [Hxr]; · iexact Hxr
    isplitl [Hxs]; · iexact Hxs
    iexact Hrxs
  isplitl [Hcy Hayr]
  · iapply (mk_yrPos c)
    isplitl [Hcy]; · iexact Hcy
    iexact Hayr
  isplitl [Hcx Haxr]
  · iapply (mk_peerRes c)
    isplitl [Hcx]; · iexact Hcx
    iexact Haxr
  isplitl [Hays Haxs]
  · iapply (mk_sentPos c)
    isplitl [Hays]; · iexact Hays
    iexact Haxs
  isplitl [Ha0 Ha1]
  · isplitl [Ha0]
    · isplitl [Ha0]; · iexact Ha0
      iexact Hr0
    isplitl [Ha1]; · iexact Ha1
    iexact Hr1
  iexact Hst

/-! ## Closing -/

theorem ended_cells : (ended c : sProp 𝕄) ⊢ iprop(atPos ER (barCell c) 1 ∅ 0
    ∗ bigSep Finset.univ fun k : KS => atPos ER (gc c (kS k)) (rounds (kS k).val) ∅ 0) := by
  rw [over_KS fun s => atPos ER (gc c s) (rounds s.val) ∅ 0]
  simp only [rounds_ys, rounds_yr, rounds_xs, rounds_xr, rounds_st]
  unfold ended
  iintro ⟨Hb, Hyr, Hxr, Hys, Hxs, H0, H1⟩
  isplitl [Hb]; · iexact Hb
  isplitl [Hyr Hxr Hys Hxs]
  · isplitl [Hys]; · iexact Hys
    isplitl [Hyr]; · iexact Hyr
    isplitl [Hxs]; · iexact Hxs
    iexact Hxr
  isplitl [H0]; · iexact H0
  iexact H1

/-- The kernel's cells close, every counter at zero. -/
theorem leave : iprop(invs O Wo K ∗ ended c) ⊢ (|={Set.univ}=> iprop(semVal (barCell c) 0 ∗ Pipeline.ownSems0 osem c) : sProp 𝕄) := by
  unfold Pipeline.ownSems0
  iintro ⟨#HI, He⟩
  ihave He := (ended_cells c) $$ He
  icases He with ⟨Hb, Hk⟩
  imod (Rounds.cell_close ER (Rd O Wo) (g := barCell c) (κ := K (barCell c)) (Set.mem_univ _) id (later_bar O Wo c)) $$ [Hb] with Hb
  · isplitr; · iapply (inv_at O Wo K (bar_own c)); iexact HI
    iexact Hb
  imod (Rounds.cells_close ER (Rd O Wo) Finset.univ (fun k : KS => gc c (kS k)) (fun k => K (gc c (kS k))) (Es := Set.univ)
    (fun _ _ => Set.mem_univ _) (fun _ _ => id) (fun k => rounds (kS k).val) (fun k _ => later_dma O Wo c (kS k))) $$ [Hk] with Hk
  · iapply (bigSep_with_persistent (R := invs O Wo K) (Φ := fun k : KS => atPos ER (gc c (kS k)) (rounds (kS k).val) ∅ 0) fun k _ =>
      sep_mono_left (own_inv O Wo K c k))
    isplitr; · iexact HI
    iexact Hk
  imodintro
  isplitl [Hb]; · iexact Hb
  iexact Hk

end Cert.KernelIdeal.Own
end
-- ==== Proof.Deal.lean ====
/- The launch: every cell's invariant, the tokens handed round the mesh and the credits, dealt to the devices. -/
module

public import proofs.«01_k».proof.Proof.Cells
public import Idealize.ShloMosaic.Lib.Pipeline.RegionTalk
public import Idealize.ShloMosaic.Lib.Rounds.Family

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The credit of the launch -/

theorem ne_bar (c d : Dev nD) (s : DmaSem sig) : gc c s ≠ barCell d := fun h => by
  have := congrArg Prod.snd h; exact absurd this (by simp)
theorem bar_ne (c d : Dev nD) (s : DmaSem sig) : barCell d ≠ gc c s := fun h => ne_bar c d s h.symm
theorem gc_dev {c d : Dev nD} {s s' : DmaSem sig} (h : gc c s = gc d s') : c = d := congrArg (fun g : GSem nD τ sig => g.1.1) h
theorem gc_sem {c d : Dev nD} {s s' : DmaSem sig} (h : gc c s = gc d s') : s = s' := SemLoc.dma.inj (congrArg Prod.snd h)
theorem bar_dev {c d : Dev nD} (h : barCell c = barCell d) : c = d := congrArg (fun g : GSem nD τ sig => g.1.1) h

/-- What a family of sixteen copies to a peer `e` owes a cell that is none of theirs. -/
theorem fam_off (s : Fin 16 → DmaSem sig) (e : Dev nD) (g : GSem nD τ sig) (h : ∀ i, g ≠ gc e (s i)) :
    (∑ i ∈ Finset.univ.filter (fun i : Fin 16 => 0 ≤ i.val), tallyAt (gc e (s i)) () N : CellTallies nD τ sig Unit) g () = 0 := by
  simp only [Finset.sum_apply, Finsupp.coe_finset_sum]
  exact Finset.sum_eq_zero fun i _ => by rw [tallyAt_apply, if_neg fun e => h i e.1]
/-- And the cell of its own arrival. -/
theorem fam_on (s : Fin 16 → DmaSem sig) (hs : Function.Injective s) (e : Dev nD) (i : Fin 16) :
    (∑ j ∈ Finset.univ.filter (fun j : Fin 16 => 0 ≤ j.val), tallyAt (gc e (s j)) () N : CellTallies nD τ sig Unit) (gc e (s i)) () = N := by
  simp only [Finset.sum_apply, Finsupp.coe_finset_sum]
  rw [Finset.sum_eq_single i]
  · rw [tallyAt_apply, if_pos ⟨rfl, rfl⟩]
  · intro j _ hj; rw [tallyAt_apply, if_neg fun e => hj (hs (gc_sem e.1)).symm]
  · intro h; exact absurd (Finset.mem_filter.2 ⟨Finset.mem_univ i, Nat.zero_le _⟩) h

theorem yrS_inj : Function.Injective yrS := fun a b h => by
  have := congrArg Fin.val h; rw [yrS_val, yrS_val] at this; exact Fin.ext (by omega)
theorem xrS_inj : Function.Injective xrS := fun a b h => by
  have := congrArg Fin.val h; rw [xrS_val, xrS_val] at this; exact Fin.ext (by omega)
theorem yr_ne_xr (i j : Fin 16) : yrS i ≠ xrS j := fun h => by
  have := congrArg Fin.val h; rw [yrS_val, xrS_val] at this; have := i.isLt; omega

theorem O₀_apply (d : Dev nD) (g : GSem nD τ sig) : O₀ d g () = yO d 0 g () + xO d 0 g ()
    + (if g = barCell (xp d) then 1 else 0) + (if g = barCell (yp d) then 1 else 0) := by
  have e (e : Dev nD) : (tallyAt (barCell e) () 1 : CellTallies nD τ sig Unit) g () = if g = barCell e then 1 else 0 := by
    rw [tallyAt_apply]; simp only [and_true]
  rw [← e, ← e]; rfl

theorem owed_bar (d c : Dev nD) : O₀ d (barCell c) () = (if d = xp c then 1 else 0) + (if d = yp c then 1 else 0) := by
  rw [O₀_apply, yO, xO, fam_off _ _ _ fun i => bar_ne _ _ _, fam_off _ _ _ fun i => bar_ne _ _ _, Nat.zero_add]
  refine congrArg₂ (· + ·) (if_congr ⟨fun h => ?_, fun h => ?_⟩ rfl rfl) (if_congr ⟨fun h => ?_, fun h => ?_⟩ rfl rfl)
  · rw [bar_dev h, xp_xp]
  · rw [h, xp_xp]
  · rw [bar_dev h, yp_yp]
  · rw [h, yp_yp]
theorem owed_yr (d c : Dev nD) (i : Fin 16) : O₀ d (gc c (yrS i)) () = if d = yp c then N else 0 := by
  rw [O₀_apply, if_neg (ne_bar _ _ _), if_neg (ne_bar _ _ _), xO, fam_off xrS _ _ fun j h => yr_ne_xr i j (gc_sem h), yO]
  by_cases h : d = yp c
  · subst h; rw [yp_yp, fam_on yrS yrS_inj, if_pos rfl, Nat.add_zero]
  · rw [fam_off yrS _ _ fun j e => h (by rw [gc_dev e, yp_yp]), if_neg h]
theorem owed_xr (d c : Dev nD) (i : Fin 16) : O₀ d (gc c (xrS i)) () = if d = xp c then N else 0 := by
  rw [O₀_apply, if_neg (ne_bar _ _ _), if_neg (ne_bar _ _ _), yO, fam_off yrS _ _ fun j h => yr_ne_xr j i (gc_sem h).symm, xO]
  by_cases h : d = xp c
  · subst h; rw [xp_xp, fam_on xrS xrS_inj, if_pos rfl, Nat.zero_add]; rfl
  · rw [fam_off xrS _ _ fun j e => h (by rw [gc_dev e, xp_xp]), if_neg h]

/-- The credit a cell gets, once what each device owes it is added up. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

variable (c : Dev nD)

theorem launch_bar : tallyOn (barCell c) (launchCredit (Pipeline.owing O₀) 0 (barCell c)) = (tallyAt (barCell c) () 2 : CellTallies nD τ sig Unit) :=
  launch_at _ _ (by
    rw [Finset.sum_congr rfl fun d _ => owed_bar d c, Finset.sum_add_distrib, Finset.sum_ite_eq' Finset.univ (xp c) fun _ => 1,
      Finset.sum_ite_eq' Finset.univ (yp c) fun _ => 1, if_pos (Finset.mem_univ _), if_pos (Finset.mem_univ _)])
theorem launch_yr (i : Fin 16) : tallyOn (gc c (yrS i)) (launchCredit (Pipeline.owing O₀) 0 (gc c (yrS i)))
    = (tallyAt (gc c (yrS i)) () N : CellTallies nD τ sig Unit) :=
  launch_at _ _ (by rw [Finset.sum_congr rfl fun d _ => owed_yr d c i, Finset.sum_ite_eq' Finset.univ (yp c) fun _ => N, if_pos (Finset.mem_univ _)])
theorem launch_xr (i : Fin 16) : tallyOn (gc c (xrS i)) (launchCredit (Pipeline.owing O₀) 0 (gc c (xrS i)))
    = (tallyAt (gc c (xrS i)) () N : CellTallies nD τ sig Unit) :=
  launch_at _ _ (by rw [Finset.sum_congr rfl fun d _ => owed_xr d c i, Finset.sum_ite_eq' Finset.univ (xp c) fun _ => N, if_pos (Finset.mem_univ _)])

/-- The cells a credit comes to. -/
def credSem : Unit ⊕ (Fin 16 ⊕ Fin 16) → SemLoc sig
  | .inl _ => .reg barS
  | .inr (.inl i) => .dma (yrS i)
  | .inr (.inr i) => .dma (xrS i)
theorem credSem_inj : Function.Injective credSem := by
  rintro (a | a | a) (b | b | b) h
  · rfl
  · exact absurd h (by simp [credSem])
  · exact absurd h (by simp [credSem])
  · exact absurd h (by simp [credSem])
  · exact congrArg (Sum.inr ∘ Sum.inl) (yrS_inj (SemLoc.dma.inj h))
  · exact absurd (SemLoc.dma.inj h) (yr_ne_xr a b)
  · exact absurd h (by simp [credSem])
  · exact absurd (SemLoc.dma.inj h).symm (yr_ne_xr b a)
  · exact congrArg (Sum.inr ∘ Sum.inr) (xrS_inj (SemLoc.dma.inj h))

theorem creds : (Pipeline.launchCred O₀ c : sProp 𝕄) ⊢ credits c := by
  unfold Pipeline.launchCred credits
  have h : (bigSep Finset.univ fun sm : SemLoc sig => cred (tallyOn ((c.tc : Thread nD τ), sm) (launchCredit (Pipeline.owing O₀) 0 ((c.tc : Thread nD τ), sm))) : sProp 𝕄)
      ⊢ bigSep (Finset.univ.map ⟨credSem, credSem_inj⟩) fun sm : SemLoc sig => cred (tallyOn ((c.tc : Thread nD τ), sm) (launchCredit (Pipeline.owing O₀) 0 ((c.tc : Thread nD τ), sm))) :=
    bigSep_subset (Finset.subset_univ _)
  refine h.trans (Entails.of_eq ?_)
  rw [bigSep_map, bigSep_univ_sum, bigSep_univ_sum]
  refine congrArg₂ (fun a b => iprop(a ∗ b)) ?_ (congrArg₂ (fun a b => iprop(a ∗ b)) (bigSep_congr fun i _ => ?_) (bigSep_congr fun i _ => ?_))
  · rw [← launch_bar c]; exact bigSep_singleton
  · rw [← launch_yr c i]; rfl
  · rw [← launch_xr c i]; rfl

/-! ## Cells and tokens -/

def barEmb : Dev nD ↪ GSem nD τ sig := ⟨fun c => barCell c, fun _ _ h => bar_dev h⟩
def scEmb : Dev nD × KS ↪ GSem nD τ sig := ⟨fun p => gc p.1 (kS p.2), fun _ _ h => Prod.ext (gc_dev h) (kS_inj (gc_sem h))⟩
def barCells : Finset (GSem nD τ sig) := Finset.univ.map barEmb
def scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact ne_bar _ _ _ h

theorem kS_surj (s : DmaSem sig) (h : 2 ≤ s.val) : ∃ k, kS k = s := by
  have hs : s.val < 68 := s.isLt
  by_cases h' : s.val < 66
  · exact ⟨.inl (⟨(s.val - 2) / 16, by omega⟩, ⟨(s.val - 2) % 16, by omega⟩), Fin.ext (by
      show 2 + 16 * ((s.val - 2) / 16) + (s.val - 2) % 16 = s.val; omega)⟩
  · exact ⟨.inr ⟨s.val - 66, by omega⟩, Fin.ext (by show 66 + (s.val - 66) = s.val; omega)⟩

theorem cell_mem (j : Fin 67) : cellN c j ∈ barCells ∪ scCells := by
  by_cases h : j.val = 0
  · refine Finset.mem_union_left _ (Finset.mem_map.2 ⟨c, Finset.mem_univ _, ?_⟩)
    unfold cellN; rw [if_pos h]; rfl
  · refine Finset.mem_union_right _ (Finset.mem_map.2 ?_)
    unfold cellN; rw [if_neg h]
    obtain ⟨k, hk⟩ := kS_surj ⟨j.val + 1, by have := j.isLt; show _ < 68; omega⟩ (by show 2 ≤ j.val + 1; omega)
    exact ⟨(c, k), Finset.mem_univ _, congrArg (gc c) hk⟩

/-- The duties of a device's cells, each with its round and its name. -/
abbrev TT : Type := Bool ⊕ ((Fin 4 × Fin 16) ⊕ Fin 32)
def tk : TT → SemLoc sig × ℕ × Bool
  | .inl b => (.reg barS, 0, b)
  | .inr (.inl p) => (.dma (kS (.inl p)), 0, false)
  | .inr (.inr k) => (.dma (stN k.val), k.val / 2, false)
theorem tk_inj : Function.Injective tk := by
  have hst (p : Fin 4 × Fin 16) (k : Fin 32) : kS (.inl p) ≠ stN k.val := fun h => by
    have h : 2 + 16 * p.1.val + p.2.val = 66 + k.val % 2 := congrArg Fin.val h
    have := p.1.isLt; have := p.2.isLt; omega
  rintro (a | a | a) (b | b | b) h
  · exact congrArg Sum.inl (congrArg (fun x : SemLoc sig × ℕ × Bool => x.2.2) h)
  · exact absurd (congrArg Prod.fst h) (by simp [tk])
  · exact absurd (congrArg Prod.fst h) (by simp [tk])
  · exact absurd (congrArg Prod.fst h) (by simp [tk])
  · exact congrArg (Sum.inr ∘ Sum.inl) (Sum.inl.inj (kS_inj (SemLoc.dma.inj (congrArg Prod.fst h))))
  · exact absurd (SemLoc.dma.inj (congrArg Prod.fst h)) (hst a b)
  · exact absurd (congrArg Prod.fst h) (by simp [tk])
  · exact absurd (SemLoc.dma.inj (congrArg Prod.fst h)).symm (hst b a)
  · have h1 : 66 + a.val % 2 = 66 + b.val % 2 := congrArg Fin.val (SemLoc.dma.inj (congrArg Prod.fst h))
    have h2 : a.val / 2 = b.val / 2 := congrArg (fun x : SemLoc sig × ℕ × Bool => x.2.1) h
    exact congrArg (Sum.inr ∘ Sum.inr) (Fin.ext (by omega))
def allToks : Finset (GSem nD τ sig × ℕ × Bool) :=
  Finset.univ.map ⟨fun p : Dev nD × TT => (((p.1 : Thread nD τ), (tk p.2).1), (tk p.2).2.1, (tk p.2).2.2), fun _ _ h =>
    Prod.ext (congrArg (fun t : GSem nD τ sig × ℕ × Bool => t.1.1.1) h)
      (tk_inj (Prod.ext (congrArg (fun t : GSem nD τ sig × ℕ × Bool => t.1.2) h) (congrArg (fun t : GSem nD τ sig × ℕ × Bool => t.2) h)))⟩

/-- The tokens of the duties of `c`'s own cells. -/
def toks : sProp 𝕄 :=
  iprop((dutyTok ER (barCell c) 0 false ∗ dutyTok ER (barCell c) 0 true)
    ∗ ((bigSep Finset.univ fun i : Fin 16 => dutyTok ER (gc c (ysS i)) 0 false)
      ∗ (bigSep Finset.univ fun i : Fin 16 => dutyTok ER (gc c (yrS i)) 0 false)
      ∗ (bigSep Finset.univ fun i : Fin 16 => dutyTok ER (gc c (xsS i)) 0 false)
      ∗ (bigSep Finset.univ fun i : Fin 16 => dutyTok ER (gc c (xrS i)) 0 false))
    ∗ bigSep Finset.univ (stTok c))

/-- Four families of sixteen. -/
theorem over_four (Φ : DmaSem sig → sProp 𝕄) : (bigSep Finset.univ fun p : Fin 4 × Fin 16 => Φ (kS (.inl p)))
    = iprop((bigSep Finset.univ fun i : Fin 16 => Φ (ysS i)) ∗ (bigSep Finset.univ fun i : Fin 16 => Φ (yrS i))
        ∗ (bigSep Finset.univ fun i : Fin 16 => Φ (xsS i)) ∗ (bigSep Finset.univ fun i : Fin 16 => Φ (xrS i))) := by
  rw [bigSep_univ_prod]
  refine (bigSep_univ_eq_bigSepL [(0 : Fin 4), 1, 2, 3] (by decide) (by decide) _).trans ?_
  show iprop((bigSep Finset.univ fun i : Fin 16 => Φ (kS (.inl (0, i)))) ∗ (bigSep Finset.univ fun i : Fin 16 => Φ (kS (.inl (1, i))))
    ∗ (bigSep Finset.univ fun i : Fin 16 => Φ (kS (.inl (2, i)))) ∗ (bigSep Finset.univ fun i : Fin 16 => Φ (kS (.inl (3, i))))) = _
  simp only [kS_ys, kS_yr, kS_xs, kS_xr]

theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_sum, bigSep_univ_sum]
  unfold toks
  refine congrArg₂ (fun a b => iprop(a ∗ b)) ?_ (congrArg₂ (fun a b => iprop(a ∗ b)) (over_four fun s => dutyTok ER (gc c s) 0 false) rfl)
  exact bigSep_univ_eq_bigSepL [false, true] (by decide) (by decide) _

def yE : Dev nD ≃ Dev nD := ⟨yp, yp, yp_yp, yp_yp⟩
def xE : Dev nD ≃ Dev nD := ⟨xp, xp, xp_xp, xp_xp⟩

/-- The tokens a device uses: its peers' barrier and arrivals, its own of the rest. -/
def used : sProp 𝕄 :=
  iprop((dutyTok ER (barCell (yp c)) 0 false ∗ dutyTok ER (barCell (xp c)) 0 true)
    ∗ ((bigSep Finset.univ fun i : Fin 16 => dutyTok ER (gc c (ysS i)) 0 false)
      ∗ (bigSep Finset.univ fun i : Fin 16 => dutyTok ER (gc (yp c) (yrS i)) 0 false)
      ∗ (bigSep Finset.univ fun i : Fin 16 => dutyTok ER (gc c (xsS i)) 0 false)
      ∗ (bigSep Finset.univ fun i : Fin 16 => dutyTok ER (gc (xp c) (xrS i)) 0 false))
    ∗ bigSep Finset.univ (stTok c))

theorem toks_around : (bigSep Finset.univ fun c : Dev nD => (toks c : sProp 𝕄)) = bigSep Finset.univ fun c : Dev nD => used c := by
  unfold toks used
  rw [bigSep_sep', bigSep_sep', bigSep_sep', bigSep_sep', bigSep_sep', bigSep_sep', bigSep_sep', bigSep_sep', bigSep_sep', bigSep_sep', bigSep_sep', bigSep_sep',
    bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => (bigSep Finset.univ fun i : Fin 16 => dutyTok ER (gc c (yrS i)) 0 false : sProp 𝕄)),
    bigSep_univ_equiv xE (fun c : Dev nD => (bigSep Finset.univ fun i : Fin 16 => dutyTok ER (gc c (xrS i)) 0 false : sProp 𝕄))]
  rfl

/-! ## The deal -/

theorem pair_up {Φ Ψ : Dev nD → sProp 𝕄} : iprop(bigSep Finset.univ Φ ∗ bigSep Finset.univ Ψ) ⊢ bigSep Finset.univ fun c => iprop(Φ c ∗ Ψ c) :=
  Entails.of_eq (bigSep_sep' _ Φ Ψ).symm

variable (O : Dev nD → S2x1024x1024.Idx → Elt F .f32) (Wo : Dev nD → S1024x2048.Idx → Elt F .f32)

/-- The records every device may consult. -/
def records (κ : GSem nD τ sig → ℕ) : sProp 𝕄 :=
  iprop(invs O Wo κ ∗ bigSep barCells fun g => reached ER g 0)
instance records_persistent (κ : GSem nD τ sig → ℕ) : BI.Persistent (records O Wo κ) := by unfold records; infer_instance

theorem reached_at : (bigSep barCells fun g => (reached ER g 0 : sProp 𝕄)) ⊢ reached ER (barCell c) 0 :=
  bigSep_elim (Finset.mem_map_of_mem barEmb (Finset.mem_univ c))

theorem mk_invs (κ : GSem nD τ sig → ℕ) : (bigSep (barCells ∪ scCells) fun g => cellInv ER (Rd O Wo) (κ g) g) ⊢ (invs O Wo κ : sProp 𝕄) :=
  bigSep_intro_persistent fun c _ => bigSep_intro_persistent fun j _ => bigSep_elim (cell_mem c j)

theorem kept_intro (κ : GSem nD τ sig → ℕ) : iprop(records O Wo κ ∗ linear c ∗ credits c) ⊢ (kept O Wo c : sProp 𝕄) := by
  unfold records kept
  iintro ⟨⟨#HI, #HR⟩, Hl, Hc⟩
  isplitr [Hc]
  · iexists κ
    isplitr; · iexact HI
    isplitr; · iapply (reached_at (F := F) (yp c)); iexact HR
    isplitr; · iapply (reached_at (F := F) (xp c)); iexact HR
    iexact Hl
  iexact Hc

/-- Every device's share, from the barrier counters and the protocol's own element. -/
theorem deal : iprop((bigSep Finset.univ fun c : Dev nD => semVal (barCell c) 0) ∗ BI.own (ER (launchOf barCells scCells allToks))
      ∗ bigSep Finset.univ fun c : Dev nD => credits c)
    ⊢ (|={Set.univ}=> bigSep Finset.univ fun c : Dev nD => kept O Wo c : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : KS => openTok ER (gc c (kS k))) :=
    Entails.of_eq (by unfold scCells; rw [bigSep_map, bigSep_univ_prod]; rfl)
  iintro ⟨Hv, Hu, Hc⟩
  imod (Rounds.fund_launch ER (Rd O Wo) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records O Wo κ) (Φ := fun c => iprop(linear c ∗ credits c)) fun c _ => kept_intro c O Wo κ)
  isplitr
  · unfold records
    isplitr; · iapply (mk_invs O Wo κ); iexact Hinv
    iexact Hr
  iapply pair_up
  isplitr [Hc]
  · unfold linear
    iapply pair_up; isplitl [Hat]; · iapply hat $$ Hat
    iapply pair_up; isplitl [Hopen]; · iapply hopen $$ Hopen
    iapply (Entails.of_eq (toks_around (F := F)))
    iapply (Entails.of_eq (toks_eq (F := F))) $$ Htok
  · iexact Hc

end Cert.KernelIdeal.Own
end
-- ==== Proof.ProgEq.lean ====
module

public import proofs.«01_k».proof.Proof.Prog

@[expose] public section

noncomputable section

namespace Cert.KernelIdeal.Own

open Idealize.ShloMosaic Idealize.ShloMosaic.TcCoe
open Idealize.SL.Sem Cert.KernelIdeal.Gen

variable {F : FTy → Type} [FloatOps F]

theorem op_congr {E : Type → Type} {α β : Type} {e e' : E β} {k k' : β → Prog E α} (he : e = e') (h : ∀ x, k x = k' x) :
    Prog.op e k = Prog.op e' k' := by subst he; exact congrArg _ (funext h)

set_option maxRecDepth 65536 in
/-- The printed body is the structured one, after it has read its device number. -/
theorem cc0_body_eq (A : Memref sig .tc .vmem S2x1024x1024 .f32) (hA : A.IsWhole) (W : Memref sig .tc .vmem S1024x2048 .f32) (hW : W.IsWhole) :
    cc0_body (F := F) A hA W hW (Memref.whole main_v2) (Memref.isWhole_whole _) ysM (Memref.isWhole_whole _) yrM (Memref.isWhole_whole _)
      xsM (Memref.isWhole_whole _) xrM (Memref.isWhole_whole _) owM (Memref.isWhole_whole _)
      cc0_scratch5 cc0_scratch6 cc0_scratch7 cc0_scratch8 cc0_scratch9 = Prog.op .deviceId (kbody A W) := by
  rw [cc0_body_eq_skeleton]
  refine op_congr rfl fun d => ?_
  repeat refine op_congr rfl fun _ => ?_
  rfl

end Cert.KernelIdeal.Own
end
-- ==== Proof.Run.lean ====
/- The region around the kernel, and the run of the whole program on the four devices: every argument kept, the result's
   rows as computed, every counter at zero. -/
module

public import proofs.«01_k».proof.Proof.Deal
public import proofs.«01_k».proof.Proof.ProgEq
public import proofs.«01_k».proof.Proof.Gen.KernelIdeal.Frame
public import Idealize.ShloMosaic.Lib.Pipeline.RegionTalk
public import Idealize.ShloMosaic.Lib.Rounds.Family

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat BodyObligation)

section
variable (O : Dev nD → S2x1024x1024.Idx → Elt F .f32) (Wo : Dev nD → S1024x2048.Idx → Elt F .f32)
variable (K : GSem nD τ sig → ℕ) (c : Dev nD)

/-! ## The kernel on one device, its cells opened before and closed after -/

theorem yr_any : iprop((∃ f, yrP c fullShare Finset.univ f) ∗ bigSep Finset.univ fun i : Fin 16 => reached ER (gc c (yrS i)) 0)
    ⊢ (yrAny c : sProp 𝕄) := by
  iintro ⟨⟨%f, H⟩, Hr⟩
  ihave H := (Entails.of_eq (yrP_chunks c fullShare Finset.univ f)) $$ H
  unfold yrAny
  rw [bigSep_sep']
  isplitl [H]
  · iapply (each_mono (Φ := fun i => yrP c fullShare {i} f) fun i => by iintro H; iexists f; iexact H) $$ H
  iexact Hr
theorem xr_any : iprop((∃ f, xrP c fullShare Finset.univ f) ∗ bigSep Finset.univ fun i : Fin 16 => reached ER (gc c (xrS i)) 0)
    ⊢ (xrAny c : sProp 𝕄) := by
  iintro ⟨⟨%f, H⟩, Hr⟩
  ihave H := (Entails.of_eq (xrP_chunks c fullShare Finset.univ f)) $$ H
  unfold xrAny
  rw [bigSep_sep']
  isplitl [H]
  · iapply (each_mono (Φ := fun i => xrP c fullShare {i} f) fun i => by iintro H; iexists f; iexact H) $$ H
  iexact Hr

/-- The five scratch buffers, at contents not chosen. -/
def scratch : sProp 𝕄 :=
  iprop((∃ f, ysP c fullShare Finset.univ f) ∗ (∃ f, yrP c fullShare Finset.univ f) ∗ (∃ f, xsP c fullShare Finset.univ f)
    ∗ (∃ f, xrP c fullShare Finset.univ f) ∗ (∃ f, owP c fullShare Finset.univ f))

/-- What the kernel leaves: its counters at zero, the scratch buffers, the result and the arguments. -/
def leftover : sProp 𝕄 :=
  iprop((semVal (barCell c) 0 ∗ Pipeline.ownSems0 osem c) ∗ scratch c ∗ outW c (outV O Wo c))

theorem kernel_wp (f0 : S2x512x2048.Idx → Elt F .f32) (Q : PUnit → sProp 𝕄) :
    iprop(entered O Wo c ∗ scratch c ∗ outW c f0 ∗ ow c (O₀ c) ∗ oP O c fullShare ∗ wP Wo c fullShare
        ∗ ((leftover O Wo c ∗ ow c 0 ∗ oP O c fullShare ∗ wP Wo c fullShare) -∗ Q ⟨⟩))
      ⊢ WP c (cc0_body (F := F) oM (Memref.isWhole_whole _) wM (Memref.isWhole_whole _) (Memref.whole main_v2) (Memref.isWhole_whole _) ysM (Memref.isWhole_whole _) yrM (Memref.isWhole_whole _)
      xsM (Memref.isWhole_whole _) xrM (Memref.isWhole_whole _) owM (Memref.isWhole_whole _)
      cc0_scratch5 cc0_scratch6 cc0_scratch7 cc0_scratch8 cc0_scratch9) Q := by
  rw [cc0_body_eq]
  unfold WP
  rw [wp_deviceId]
  unfold entered opened scratch
  iintro ⟨⟨%K, #HIL, ⟨Hry, Hrx⟩, Htok⟩, ⟨Hys, Hyr, Hxs, Hxr, Hown⟩, Hout, HO, Ho, Hw, HQ⟩
  iapply (wp_fupd _ _ _ _ _)
  iapply (kbody_wp O Wo K c fullShare fullShare f0)
  isplitr; · iexact HIL
  isplitl [Htok]; · iexact Htok
  isplitl [Hyr Hxr Hry Hrx]
  · isplitl [Hyr Hry]
    · iapply (yr_any c)
      isplitl [Hyr]; · iexact Hyr
      iexact Hry
    iapply (xr_any c)
    isplitl [Hxr]; · iexact Hxr
    iexact Hrx
  isplitl [HO]; · iexact HO
  isplitl [Ho]; · iexact Ho
  isplitl [Hw]; · iexact Hw
  isplitl [Hys]; · iexact Hys
  isplitl [Hxs]; · iexact Hxs
  isplitl [Hown]; · iexact Hown
  isplitl [Hout]; · iexact Hout
  unfold bodyBufs
  icases HIL with ⟨#HI, #HL⟩
  iintro ⟨He, ⟨Ho, Hw, Hys, Hyr, Hxs, Hxr, Hown, Hout⟩, HO⟩
  imod (leave O Wo K c) $$ [He] with Hz
  · isplitr; · iexact HI
    iexact He
  imodintro
  iapply HQ
  unfold leftover scratch
  isplitl [Hz Hys Hyr Hxs Hxr Hown Hout]
  · isplitl [Hz]; · iexact Hz
    isplitl [Hys Hyr Hxs Hxr Hown]
    · isplitl [Hys]; · iexists _; iexact Hys
      isplitl [Hyr]; · iexists _; iexact Hyr
      isplitl [Hxs]; · iexists _; iexact Hxs
      isplitl [Hxr]; · iexists _; iexact Hxr
      iexists _; iexact Hown
    iexact Hout
  isplitl [HO]; · iexact HO
  isplitl [Ho]; · iexact Ho
  iexact Hw

theorem scratch_eq : (Pipeline.scopedRest (Ix := Unit) (Name := ℕ) (U := UU) (Lvl := ℕ) (Val := Elt F) spec0 c : sProp 𝕄) = scratch c := by
  rw [scopedRest0_eq]; unfold scratch; simp only [ysP, yrP, xsP, xrP, owP, cks_univ]; rfl

end

/-! ## What the buffers hold -/

variable (m : (ℓ : Loc nD τ sig) → Buf (Elt F) ℓ) (ρ : Dev nD → PrngReg)

/-- A device's buffers at launch, when the kernel is entered, and at the end. -/
abbrev V₀ (c : Dev nD) : Valuation τ sig (Elt F) := fun b => m ((c : Dev nD), b)
abbrev V₁ (c : Dev nD) : Valuation τ sig (Elt F) := StableHlo.after hostOps0 (V₀ m c)
/-- The blocks of the two arguments the kernel is given. -/
abbrev oOf (c : Dev nD) : S2x1024x1024.Idx → Elt F .f32 := V₁ m c (Proc.devRef .tc main_v1)
abbrev wOf (c : Dev nD) : S1024x2048.Idx → Elt F .f32 := V₁ m c (Proc.devRef .tc main_arg1)
def V₂ (c : Dev nD) : Valuation τ sig (Elt F) := Function.update (V₁ m c) (Proc.devRef .tc main_v2) (outV (oOf m) (wOf m) c)

theorem V₂_out (c : Dev nD) : V₂ m c (Proc.devRef .tc main_v2) = outV (oOf m) (wOf m) c := Function.update_self ..
theorem V₂_ne (c : Dev nD) (b : DevRef τ sig) (h : b ≠ Proc.devRef .tc main_v2) : V₂ m c b = V₁ m c b := Function.update_of_ne h ..

/-- A window over a whole array stages the whole array. -/
theorem iblk0_eq (c : Dev nD) (t : Fin cfg0.N) : (iblk m c 0 t : S2x1024x1024.Idx → Elt F .f32) = oOf m c := by
  obtain rfl := fin_N0 t
  funext j
  refine congrArg (oOf m c) (funext fun a => Fin.ext ?_)
  blk_simp
  exact (congrArg (· + (j a).val) (Nat.zero_mul _)).trans (Nat.zero_add _)
theorem iblk1_eq (c : Dev nD) (t : Fin cfg0.N) : (iblk m c 1 t : S1024x2048.Idx → Elt F .f32) = wOf m c := by
  obtain rfl := fin_N0 t
  funext j
  refine congrArg (wOf m c) (funext fun a => Fin.ext ?_)
  blk_simp
  exact (congrArg (· + (j a).val) (Nat.zero_mul _)).trans (Nat.zero_add _)

end Cert.KernelIdeal.Own
end
-- ==== Proof.Main.lean ====
/- The launch of the region, and the run of the whole program on the four devices: every argument kept, the result's
   rows as computed, every counter at zero. -/
module

public import proofs.«01_k».proof.Proof.Run
public import Idealize.ShloMosaic.Lib.Pipeline.RegionTalk
public import Idealize.ShloMosaic.Lib.Rounds.Family

@[expose] public section

noncomputable section

namespace Cert.KernelIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The region's proof data -/

/-- Before the kernel: its cells open, the scratch, the result's buffer and the generator's register. -/
def Φin (c : Dev nD) : sProp 𝕄 :=
  iprop(entered (oOf m) (wOf m) c ∗ scratch c ∗ outW c (V₁ m c (Proc.devRef .tc main_v2)) ∗ ∃ r, prngReg c r)
/-- After it. -/
def Φout (c : Dev nD) : sProp 𝕄 := iprop(leftover (oOf m) (wOf m) c ∗ ∃ r, prngReg c r)

def dat (c : Dev nD) : Dat τ (Elt F) Unit ℕ UU ℕ cfg0 c where
  A w := V m c (Pipeline.arrRef spec0 w)
  after w _ := match w with
    | ⟨0, _⟩ => oOf m c
    | ⟨1, _⟩ => wOf m c
  Φ t := if t.val = 0 then Φin m c else Φout m c
  q _ := fullShare
  owed t := if t.val = 0 then O₀ c else 0

abbrev adm : (p : Fin 1) → (pcfgs (F := F) p).Adm := fun p => (cfgs p).toPCfg_adm
def dats : (p : Fin 1) → (c : Dev nD) → Dat τ (Elt F) Unit ℕ UU ℕ (Pipeline.pin (pcfgs (F := F)) adm p) c
  | 0 => dat m

theorem owed_first (c : Dev nD) : (dat (F := F) m c).owed t0_0.castSucc = O₀ c := by
  show (if (t0_0.castSucc : Fin (cfg0.N + 1)).val = 0 then O₀ c else 0) = O₀ c; exact if_pos rfl
theorem owed_zero (c : Dev nD) : (dat (F := F) m c).owed 0 = O₀ c := by
  show (if (0 : Fin (cfg0.N + 1)).val = 0 then O₀ c else 0) = O₀ c; exact if_pos rfl
theorem last_ne : (Fin.last cfg0.N).val ≠ 0 := by rw [Fin.val_last, show cfg0.N = 1 from N_0]; decide
theorem owed_last (c : Dev nD) : (dat (F := F) m c).owed (Fin.last _) = 0 := by
  show (if (Fin.last cfg0.N).val = 0 then O₀ c else 0) = 0; exact if_neg last_ne
theorem Φ_last (c : Dev nD) : (dat (F := F) m c).Φ (Fin.last _) = Φout m c := by
  show (if (Fin.last cfg0.N).val = 0 then Φin m c else Φout m c) = _; exact if_neg last_ne

theorem before0 (c : Dev nD) (t : Fin cfg0.N) (d) : (dat m c).before 0 t d = iblk m c 0 t :=
  ((dat m c).before_in_eq_fetched 0 rfl (fun _ => rfl) (fun _ _ _ => rfl) (fun t => by
    rw [show (dat m c).after 0 t = iblk m c 0 t from (iblk0_eq m c t).symm]; unfold Dat.blockOf iblk; rfl) t d).trans
    (by unfold Dat.fetched Dat.blockOf iblk; rfl)
theorem before1 (c : Dev nD) (t : Fin cfg0.N) (d) : (dat m c).before 1 t d = iblk m c 1 t :=
  ((dat m c).before_in_eq_fetched 1 rfl (fun _ => rfl) (fun _ _ _ => rfl) (fun t => by
    rw [show (dat m c).after 1 t = iblk m c 1 t from (iblk1_eq m c t).symm]; unfold Dat.blockOf iblk; rfl) t d).trans
    (by unfold Dat.fetched Dat.blockOf iblk; rfl)

theorem owes_to (c : Dev nD) (t : Fin (cfg0.N + 1)) (T : CellTallies nD τ sig Unit) (h : (dat (F := F) m c).owed t = T) :
    (ow c T : sProp 𝕄) ⊢ ((dat m c).owesAt () t : sProp 𝕄) := by
  unfold ow Dat.owesAt Pipeline.owesWithin Dat.bound; rw [h]
  iintro ⟨%W, H⟩; iexists W; isplitr; · ipureintro; exact fun _ _ => Or.inl trivial
  iexact H
theorem owes_of (c : Dev nD) (t : Fin (cfg0.N + 1)) (T : CellTallies nD τ sig Unit) (h : (dat (F := F) m c).owed t = T) :
    ((dat m c).owesAt () t : sProp 𝕄) ⊢ (ow c T : sProp 𝕄) := by
  unfold ow Dat.owesAt Pipeline.owesWithin; rw [h]
  iintro ⟨%W, -, H⟩; iexists W; iexact H

set_option maxRecDepth 4000 in
/-- What the body is handed, and what it hands back. -/
def bodyPre (c : Dev nD) : sProp 𝕄 :=
  iprop(Φin m c ∗ (dat m c).owesAt () t0_0.castSucc
    ∗ (∃ d, owns (c : Thread nD τ) oM fullShare ((dat m c).before (0 : Fin 2) t0_0 d))
    ∗ (∃ d, owns (c : Thread nD τ) wM fullShare ((dat m c).before (1 : Fin 2) t0_0 d)))
set_option maxRecDepth 4000 in
def bodyPost (c : Dev nD) : sProp 𝕄 :=
  iprop(Φout m c ∗ (dat m c).owesAt () t0_0.succ
    ∗ owns (c : Thread nD τ) oM fullShare ((dat m c).after (0 : Fin 2) t0_0)
    ∗ owns (c : Thread nD τ) wM fullShare ((dat m c).after (1 : Fin 2) t0_0))

theorem owns_o (c : Dev nD) (f : S2x1024x1024.Idx → Elt F .f32) :
    (owns (c : Thread nD τ) oM fullShare f : sProp 𝕄) = (oM.view.loc (c : Thread nD τ) ↦[Finset.univ]{fullShare} f) := owns_whole ..
theorem owns_w (c : Dev nD) (f : S1024x2048.Idx → Elt F .f32) :
    (owns (c : Thread nD τ) wM fullShare f : sProp 𝕄) = (wM.view.loc (c : Thread nD τ) ↦[Finset.univ]{fullShare} f) := owns_whole ..

theorem body_at (c : Dev nD) : bodyPre m c ⊢ WP c (cc0_body (F := F) oM (Memref.isWhole_whole _) wM (Memref.isWhole_whole _) (Memref.whole main_v2) (Memref.isWhole_whole _) ysM (Memref.isWhole_whole _) yrM (Memref.isWhole_whole _)
      xsM (Memref.isWhole_whole _) xrM (Memref.isWhole_whole _) owM (Memref.isWhole_whole _)
      cc0_scratch5 cc0_scratch6 cc0_scratch7 cc0_scratch8 cc0_scratch9) (fun _ => bodyPost m c) := by
  unfold bodyPre bodyPost Φin Φout
  rw [show (dat m c).after (0 : Fin 2) t0_0 = oOf m c from rfl, show (dat m c).after (1 : Fin 2) t0_0 = wOf m c from rfl,
    owns_o, owns_w]
  simp only [show ∀ d, (dat m c).before (0 : Fin 2) t0_0 d = oOf m c from fun d => (before0 m c t0_0 d).trans (iblk0_eq m c t0_0),
    show ∀ d, (dat m c).before (1 : Fin 2) t0_0 d = wOf m c from fun d => (before1 m c t0_0 d).trans (iblk1_eq m c t0_0), owns_o, owns_w]
  iintro ⟨⟨He, Hs, Hout, Hp⟩, HO, ⟨%d0, Ho⟩, ⟨%d1, Hw⟩⟩
  iapply (kernel_wp (oOf m) (wOf m) c (V₁ m c (Proc.devRef .tc main_v2)))
  isplitl [He]; · iexact He
  isplitl [Hs]; · iexact Hs
  isplitl [Hout]; · iexact Hout
  isplitl [HO]; · iapply (owes_of m c _ (O₀ c) (owed_first m c)); iexact HO
  isplitl [Ho]; · iexact Ho
  isplitl [Hw]; · iexact Hw
  iintro ⟨Hl, HO, Ho, Hw⟩
  isplitl [Hl Hp]
  · isplitl [Hl]; · iexact Hl
    iexact Hp
  isplitl [HO]; · iapply (owes_to m c t0_0.succ 0 (owed_last m c)); iexact HO
  isplitl [Ho]; · iexact Ho
  iexact Hw

set_option maxRecDepth 100000 in
theorem body_obligation (c : Dev nD) : BodyObligation (dat (F := F) m c) defs₀ 𝒱₀ () Set.univ := fun t => by
  rw [fin_N0 t, bigSep_W0, bigSep_W0]
  show bodyPre m c ⊢ WP c (cc0_body (F := F) oM (Memref.isWhole_whole _) wM (Memref.isWhole_whole _) (Memref.whole main_v2) (Memref.isWhole_whole _) ysM (Memref.isWhole_whole _) yrM (Memref.isWhole_whole _)
      xsM (Memref.isWhole_whole _) xrM (Memref.isWhole_whole _) owM (Memref.isWhole_whole _)
      cc0_scratch5 cc0_scratch6 cc0_scratch7 cc0_scratch8 cc0_scratch9) (fun _ => bodyPost m c)
  exact body_at m c

/-! ## The segments -/

def bufs : Finset (DevRef τ sig) := (StableHlo.tcRefs τ sig).filter fun b => ¬ b.isScoped
abbrev outRef : DevRef τ sig := Proc.devRef .tc main_v2
/-- The buffers beside the staged arrays. -/
abbrev besides : Finset (DevRef τ sig) := bufs \ Pipeline.arrRefs spec0

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem arrs_sub : Pipeline.arrRefs (τ := τ) spec0 ⊆ bufs := by decide
theorem out_sub : ({outRef} : Finset (DevRef τ sig)) ⊆ besides := by decide
theorem arr_ne (w : Fin 2) : Proc.devRef (τ := τ) .tc (Pipeline.arrRef spec0 w) ≠ outRef := by revert w; decide

theorem bufs_eq (c : Dev nD) (W : Valuation τ sig (Elt F)) : (StableHlo.held (c : Thread nD τ) bufs W : sProp 𝕄)
    = iprop(((c : Thread nD τ).loc main_arg0 ↦{fullShare} W (Proc.devRef .tc main_arg0)) ∗ ((c : Thread nD τ).loc main_arg1 ↦{fullShare} W (Proc.devRef .tc main_arg1))
        ∗ ((c : Thread nD τ).loc main_v1 ↦{fullShare} W (Proc.devRef .tc main_v1)) ∗ ((c : Thread nD τ).loc main_v2 ↦{fullShare} W (Proc.devRef .tc main_v2))) := by
  unfold StableHlo.held
  rw [bigSep_eq_bigSepL_of_eq [Proc.devRef .tc main_arg0, Proc.devRef .tc main_arg1, Proc.devRef .tc main_v1, Proc.devRef .tc main_v2] (by decide) (by decide)]
  rfl

theorem out_held (c : Dev nD) (W : Valuation τ sig (Elt F)) : (StableHlo.held (c : Thread nD τ) {outRef} W : sProp 𝕄) = outW c (W outRef) := by
  unfold StableHlo.held
  rw [bigSep_singleton]

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

local notation "ℍ" => Pipeline.HostSeg (Name := ℕ) (U := UU) (pcfgs (F := F)) defs₀ 𝒱₀ L lv
local notation "ℝ𝕊" => Pipeline.RegionSeg (pcfgs (F := F)) adm (dats m) () defs₀ 𝒱₀ L lv

/-- What rides beside the buffers to the region. -/
def riding (c : Dev nD) : sProp 𝕄 := iprop(kept (oOf m) (wOf m) c ∗ (∃ r, prngReg c r) ∗ ow c (O₀ c))

theorem hostOps0_bufs : ∀ op ∈ (hostOps0 : List (HloOp τ sig (Elt F))), op.bufs ⊆ bufs := fun op h => by
  simp only [List.mem_singleton] at h; subst h
  show ({Proc.devRef .tc main_arg0, Proc.devRef .tc main_v1} : Finset (DevRef τ sig)) ⊆ bufs; decide

def seg0 : ℍ := Pipeline.HostSeg.ofOps _ _ _ _ _ bufs hostOps0 hostOps0_bufs (List.forall_iff_forall_mem.mp hostOps0_fresh) (V₀ m) (riding m)

theorem lv_bar (d : Dev nD) : lv (barCell d) () = 1 := rfl

/-- Whatever a device owes at the start is above the staging. -/
theorem owed_above {c : Dev nD} {g : GSem nD τ sig} (h : 0 < O₀ c g ()) : () ∈ L g ∧ (0 : ℕ) < lv g () := by
  rw [O₀_apply] at h
  by_cases h1 : g = barCell (xp c)
  · rw [h1, L_tc, lv_bar]; exact ⟨Finset.mem_singleton_self _, Nat.one_pos⟩
  by_cases h2 : g = barCell (yp c)
  · rw [h2, L_tc, lv_bar]; exact ⟨Finset.mem_singleton_self _, Nat.one_pos⟩
  rw [if_neg h1, if_neg h2, Nat.add_zero] at h
  have h : 0 < (yO c 0 + xO c 0) g () := by
    rw [Pi.add_apply, Finsupp.add_apply]; exact h
  rcases owed_cell h with ⟨i, _, e⟩ | ⟨i, _, e⟩
  · rw [e, L_tc, lv_yr]; exact ⟨Finset.mem_singleton_self _, Nat.two_pos⟩
  · rw [e, L_tc, lv_xr]; exact ⟨Finset.mem_singleton_self _, (by decide)⟩

theorem stage_low (c : Dev nD) (w : Fin 2) (s : Fin (spec0 w).nbuf) : lv ((c : Thread nD τ), .dma ((spec0 w).sem s)) () ≤ 0 := by
  have h := win_sem w s
  show (if ((spec0 w).sem s).val < 18 then 0 else _) ≤ 0
  rw [if_pos (by omega)]

theorem arr_first (c : Dev nD) (w : Fin 2) : (dat m c).arrAt w 0 = V₁ m c (Proc.devRef .tc (Pipeline.arrRef spec0 w)) := by
  fin_cases w <;> exact (dat m c).arrAt_in _ rfl _
theorem arr_last (c : Dev nD) (w : Fin 2) : (dat m c).arrAt w cfg0.N = V₂ m c (Proc.devRef .tc (Pipeline.arrRef spec0 w)) := by
  rw [V₂_ne m c _ (arr_ne w)]
  fin_cases w <;> exact (dat m c).arrAt_in _ rfl _

theorem cut_owed (c : Dev nD) (t : Fin ((Pipeline.pin (pcfgs (F := F)) adm 0).N + 1)) (g : GSem nD τ sig) (i : Unit) (h : 0 < (dats (F := F) m 0 c).owed t g i) :
    i ∈ L g ∧ (0 : ℕ) < lv g i := by
  have e : (dats (F := F) m 0 c).owed t = if t.val = 0 then O₀ c else 0 := rfl
  rw [e] at h
  split at h
  · cases i; exact owed_above h
  · exact absurd h (Nat.lt_irrefl 0)

theorem enter_region (c : Dev nD) : iprop(Pipeline.scopedRest (Pipeline.pin (pcfgs (F := F)) adm 0).spec c ∗ (∃ r, prngReg c r) ∗ StableHlo.held (c.tc : Thread nD τ) {outRef} (V₁ m c)
      ∗ entered (oOf m) (wOf m) c) ⊢ (dats m 0 c).Φ 0 := by
  rw [show (dats m 0 c).Φ 0 = Φin m c from rfl,
    show (Pipeline.scopedRest (Pipeline.pin (pcfgs (F := F)) adm 0).spec c : sProp 𝕄) = scratch c from scratch_eq c, out_held]
  unfold Φin
  iintro ⟨Hs, Hp, Ho, He⟩
  isplitl [He]; · iexact He
  isplitl [Hs]; · iexact Hs
  isplitl [Ho]; · iexact Ho
  iexact Hp

theorem leave_region (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) {outRef} (V₂ m c)
        ∗ Pipeline.ownSems0 osem c ∗ semVal (barCell c) 0) := by
  rw [show (dats m 0 c).Φ (Fin.last _) = Φout m c from Φ_last m c,
    show (Pipeline.scopedRest (Pipeline.pin (pcfgs (F := F)) adm 0).spec c : sProp 𝕄) = scratch c from scratch_eq c, out_held, V₂_out]
  unfold Φout leftover
  iintro ⟨⟨⟨Hb, Hk⟩, Hs, Ho⟩, Hp⟩
  isplitl [Hs]; · iexact Hs
  isplitl [Hp]; · iexact Hp
  isplitl [Ho]; · iexact Ho
  isplitl [Hk]; · iexact Hk
  iexact Hb

set_option backward.isDefEq.respectTransparency.types false in
def reg0 : ℝ𝕊 0 :=
  Pipeline.RegionSeg.ofTalk (pcfgs (F := F)) adm (dats m) () defs₀ 𝒱₀ L lv 0 osem osem_facts
    {outRef} besides out_sub launch0.toP rfl (fun c => (body_obligation m c).loose)
    (fun _ => 0) O₀ (fun c => (owed_zero m c).trans (zero_add _).symm) (owed_last m) (fun _ => rfl) (fun c w => by unfold Dat.share; split <;> rfl)
    (V₁ m) (V₂ m) (fun c b hb => V₂_ne m c b fun e => (Finset.mem_sdiff.mp hb).2 (Finset.mem_singleton.mpr e))
    (fun c => kept (oOf m) (wOf m) c) (fun c => semVal (barCell c) 0) (fun c => entered (oOf m) (wOf m) c) (fun c => semVal (barCell c) 0)
    (fun c => enter (oOf m) (wOf m) c) (enter_region m) (leave_region m)
    (fun c => by iintro H; imodintro; iexact H)
    (fun _ => 0)
    ⟨fun c w s => by rw [L_tc]; exact Finset.mem_singleton_self _, fun c w s => stage_low c w s, fun c t g i h => cut_owed m c t g i h⟩
    (fun _ => iprop(emp))
    (fun c w => arr_first m c w) (fun c w => arr_last m c w)

theorem held_split (c : Dev nD) (W : Valuation τ sig (Elt F)) : (StableHlo.held (c : Thread nD τ) bufs W : sProp 𝕄)
    = iprop(StableHlo.held (c : Thread nD τ) (Pipeline.arrRefs spec0) W ∗ StableHlo.held (c : Thread nD τ) besides W) :=
  StableHlo.held_sub_split (c.tc : Thread nD τ) arrs_sub W

theorem region_pre (c : Dev nD) : iprop(StableHlo.held (c : Thread nD τ) bufs (V₁ m c) ∗ riding m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) besides (V₁ m c) ∗ emp) ∗ kept (oOf m) (wOf m) c ∗ ∃ Wd, owes (c : Thread nD τ) (0 + O₀ c) Wd)
  rw [zero_add, held_split]
  unfold riding ow
  iintro ⟨⟨Ha, Hb⟩, HK, Hp, HO⟩
  isplitl [Ha]; · iexact Ha
  isplitl [Hp]; · iexact Hp
  isplitl [Hb]
  · isplitl [Hb]; · iexact Hb
    iempintro
  isplitl [HK]; · iexact HK
  iexact HO

/-- What a device ends with. -/
def finish (c : Dev nD) : sProp 𝕄 := iprop(StableHlo.held (c : Thread nD τ) bufs (V₂ m c) ∗ semVal (barCell c) 0)

theorem region_post (c : Dev nD) : (reg0 m).post c ⊢ iprop(finish m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) besides (V₂ m c) ∗ emp) ∗ semVal (barCell c) 0 ∗ ∃ Wd, owes (c : Thread nD τ) (0 : CellTallies nD τ sig Unit) Wd) ⊢ _
  unfold finish
  rw [held_split]
  iintro ⟨Ha, -, ⟨Hb, -⟩, Hz, HO⟩
  isplitr [HO]
  · isplitr [Hz]
    · isplitl [Ha]; · iexact Ha
      iexact Hb
    iexact Hz
  iexact HO

/-! ## The launch -/

/-- The launch element: the pipeline's, and the protocol's. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's element, kept on the first device until it is dealt. -/
def pot (c : Dev nD) : sProp 𝕄 := if c = (0 : Dev nD) then BI.own (ER (launchOf barCells scCells allToks)) else BI.emp
theorem pot_all : (bigSep Finset.univ fun c : Dev nD => (pot c : sProp 𝕄)) = BI.own (ER (launchOf barCells scCells allToks)) := by
  rw [bigSep_univ_at _ (0 : Dev nD), bigSep_congr (s := Finset.univ.erase (0 : Dev nD)) (Φ := fun c => (pot c : sProp 𝕄)) (Ψ := fun _ => (BI.emp : sProp 𝕄))
    fun c hc => by unfold pot; exact if_neg (Finset.ne_of_mem_erase hc), BI.bigSep_emp_const]
  exact (BI.equiv_iff.mp sep_emp).trans (if_pos rfl)

/-- A device's share of the launch beside the protocol's. -/
def own₀ (c : Dev nD) : sProp 𝕄 :=
  iprop(StableHlo.held (c : Thread nD τ) bufs (V₀ m c) ∗ (∃ r, prngReg c r) ∗ ow c (O₀ c))

theorem start_of (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ pot c)
    ⊢ (iprop(own₀ m c ∗ semVal (barCell c) 0 ∗ pot c ∗ credits c) : sProp 𝕄) := by
  rw [show unscopedBufs c (fun b => m ((c : Thread nD τ).loc b)) = StableHlo.held (c : Thread nD τ) bufs (V₀ m c) from unscoped_held c (V₀ m c),
    unscopedSems_eq]
  unfold own₀ ow
  iintro ⟨Hh, Hv, HO, Hc, Hp, Hu⟩
  isplitl [Hh HO Hp]
  · isplitl [Hh]; · iexact Hh
    isplitl [Hp]; · iexists _; iexact Hp
    iexists _; iexact HO
  isplitl [Hv]; · iexact Hv
  isplitl [Hu]; · iexact Hu
  iapply (creds (F := F) c); iexact Hc

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ pot c)) ∗ levAts L lv)
      ⊢ (|={Set.univ}=> bigSep Finset.univ fun c : Dev nD => iprop(StableHlo.held (c : Thread nD τ) bufs (V₀ m c) ∗ riding m c) : sProp 𝕄) := by
  iintro ⟨H, -⟩
  ihave H := (each_mono (s := Finset.univ) (start_of m ρ)) $$ H
  ihave H := (Entails.of_eq (bigSep_sep' _ _ _)) $$ H
  icases H with ⟨Hown, H⟩
  ihave H := (Entails.of_eq (bigSep_sep' _ _ _)) $$ H
  icases H with ⟨Hv, H⟩
  ihave H := (Entails.of_eq (bigSep_sep' _ _ _)) $$ H
  icases H with ⟨Hu, Hc⟩
  ihave Hu := (Entails.of_eq (pot_all (F := F))) $$ Hu
  imod (deal (oOf m) (wOf m)) $$ [Hv Hu Hc] with Hk
  · isplitl [Hv]; · iexact Hv
    isplitl [Hu]; · iexact Hu
    iexact Hc
  imodintro
  iapply (each_mono (s := Finset.univ) (Φ := fun c => iprop(own₀ m c ∗ kept (oOf m) (wOf m) c)) fun c => by
    unfold own₀ riding
    iintro ⟨⟨Hh, Hp, HO⟩, Hk⟩
    isplitl [Hh]; · iexact Hh
    isplitl [Hk]; · iexact Hk
    isplitl [Hp]; · iexact Hp
    iexact HO)
  iapply pair_up
  isplitl [Hown]; · iexact Hown
  iexact Hk

theorem unscoped_bar : ∀ sm : SemLoc sig, sm.isScoped .tc = false → sm = .reg barS := by decide

theorem V₂_arg0 (c : Dev nD) : V₂ m c (Proc.devRef .tc main_arg0) = m ((c : Thread nD τ).loc main_arg0) :=
  (V₂_ne m c _ (by decide)).trans (V_main_arg0 m c)
theorem V₂_arg1 (c : Dev nD) : V₂ m c (Proc.devRef .tc main_arg1) = m ((c : Thread nD τ).loc main_arg1) :=
  (V₂_ne m c _ (by decide)).trans (V_main_arg1 m c)

set_option backward.isDefEq.respectTransparency.types false in
/-- The run: from any memory with every counter at zero, every weakly fair execution on the four devices ends; the arguments
    are as they were, the result is what its rows were computed to, every counter is at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outV (oOf m) (wOf m) c) ∧ r.2.sem = fun _ => 0) :=
  Pipeline.θ_run_regions_kit_sems (pcfgs (F := F)) adm (dats m) () cellOf_inj EP defs₀ 𝒱₀ L lv m ρ main [.host (seg0 m), .region (reg0 m)]
    (fun c Q => by rw [main_segs adm (dats m) () 𝒱₀ L lv (seg0 m) (reg0 m) rfl c])
    (by simp only [Pipeline.Seg.pipes_host, Pipeline.Seg.pipes_region, Pipeline.Seg.pipes_nil]; decide)
    (O₀ := O₀) (hL := L_of_ne) (G := pot) (u₀ := u₀)
    (hu₀ := by
      unfold u₀
      iintro Hu
      ihave H := (ownU_pair _ _) $$ Hu
      icases H with ⟨HP, HX⟩
      imodintro
      isplitl [HP]; · iexact HP
      rw [pot_all]; iexact HX)
    (T₀ := fun c => iprop(StableHlo.held (c : Thread nD τ) bufs (V₀ m c) ∗ riding m c)) (Tₙ := finish m)
    (hch := ⟨fun c => .rfl, fun c => region_pre m c, fun c => region_post m c⟩)
    (hinit := init m ρ)
    (QY := fun c s => (s.mem ((c : Thread nD τ).loc main_arg0) = V₂ m c (Proc.devRef .tc main_arg0)
      ∧ s.mem ((c : Thread nD τ).loc main_arg1) = V₂ m c (Proc.devRef .tc main_arg1)
      ∧ s.mem ((c : Thread nD τ).loc main_v2) = V₂ m c (Proc.devRef .tc main_v2)) ∧ s.sem (barCell c) = 0)
    (hfin := fun c s' => by
      unfold finish; rw [bufs_eq]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_arg0] at h0; rw [V₂_arg1] at h1; rw [V₂_out] at h2
        exact ⟨h0, h1, h2⟩,
      sem_eq_zero hs fun c sm hsm => by
        obtain rfl := unscoped_bar sm hsm
        exact (h c).2⟩)

end Cert.KernelIdeal.Own
end
-- ==== Proof.Value.lean ====
/- The value over the ideal floats: the kernel's result on a device is its rows of the reference's product. -/
module

public import proofs.«01_k».proof.Proof.Main
public import proofs.«01_k».proof.Proof.Gen.ReferenceIdeal.Run
public import Idealize.ShloMosaic.Lib.Pointwise
public import Idealize.ShloMosaic.Lib.Layout

@[expose] public section

noncomputable section

namespace Cert.KernelIdeal.Own

open Idealize.ShloMosaic Idealize.ShloMosaic.TcCoe
open Idealize.ShloMosaic.ValueKit (rect_emb_unit_val)
open Idealize.SL.Sem Cert.KernelIdeal.Gen

/-- The products of a block of rows, read at an index. -/
theorem pay4_at (w : S1024x2048.Idx → Elt Ideal .f32) (v : S1x32x1024.Idx → Elt Ideal .f32) (j : S1x32x2048.Idx) :
    k0_pay4 (F := Ideal) (k0_pay1 w) v j = ∑ k : Fin 1024, v (ix3 0 (j 1) k) * w (ix2 k (j 2)) := by
  idx_vars j
  pointwise [k0_pay4, k0_pay1]
theorem pay3_at (w : S1024x2048.Idx → Elt Ideal .f32) (v : S1x224x1024.Idx → Elt Ideal .f32) (j : S1x224x2048.Idx) :
    k0_pay3 (F := Ideal) (k0_pay1 w) v j = ∑ k : Fin 1024, v (ix3 0 (j 1) k) * w (ix2 k (j 2)) := by
  idx_vars j
  pointwise [k0_pay3, k0_pay1]
theorem pay6_at (w : S1024x2048.Idx → Elt Ideal .f32) (v : S1x256x1024.Idx → Elt Ideal .f32) (j : S1x256x2048.Idx) :
    k0_pay6 (F := Ideal) (k0_pay1 w) v j = ∑ k : Fin 1024, v (ix3 0 (j 1) k) * w (ix2 k (j 2)) := by
  idx_vars j
  pointwise [k0_pay6, k0_pay1]

/-- The reference's product at an index. -/
theorem ref_at (X : (⟨4, ![2, 1024, 32, 64]⟩ : Shape).Idx → Elt Ideal .f32) (W : (⟨2, ![2048, 2048]⟩ : Shape).Idx → Elt Ideal .f32)
    (b : Fin 2) (r : Fin 1024) (n : Fin 2048) :
    (Host.dotGeneral (F := Ideal) (φ₁ := .f32) (φ₂ := .f32) Cert.ReferenceIdeal.dot_S2x1024x2048_S2048x2048_S2x1024x2048_2_0_01_1_n_n none
      (shapeCast _ X Cert.ReferenceIdeal.Gen.facts.shapeCasts_S2x1024x32x64_S2x1024x2048) W) (ix3 b r n)
      = ∑ k : Fin 2048, X (ix4 b r ⟨k.val / 64, by omega⟩ ⟨k.val % 64, by omega⟩) * W (ix2 k n) := by
  pointwise

/-! ## The two halves of the sum -/

section Halves

variable (X : (⟨4, ![2, 1024, 32, 64]⟩ : Shape).Idx → Elt Ideal .f32) (W : (⟨2, ![2048, 2048]⟩ : Shape).Idx → Elt Ideal .f32)

/-- The part of the product that the devices of column `y` compute. -/
def half (y : Fin 2) (b : Fin 2) (r : Fin 1024) (n : Fin 2048) : Elt Ideal .f32 :=
  ∑ k : Fin 1024, X (ix4 b r ⟨16 * y.val + k.val / 64, by omega⟩ ⟨k.val % 64, by omega⟩)
    * W (ix2 ⟨1024 * y.val + k.val, by omega⟩ n)

/-- The whole product is the sum of its halves. -/
theorem ref_halves (b : Fin 2) (r : Fin 1024) (n : Fin 2048) :
    (∑ k : Fin 2048, X (ix4 b r ⟨k.val / 64, by omega⟩ ⟨k.val % 64, by omega⟩) * W (ix2 k n) : EReal)
      = half X W 0 b r n + half X W 1 b r n := by
  rw [Fin.sum_univ_two_halves 1024 1024 rfl]
  refine congrArg₂ (· + ·) (Finset.sum_congr rfl fun k _ => ?_) (Finset.sum_congr rfl fun k _ => ?_)
  · exact congrArg₂ (fun a c => X (ix4 b r a ⟨k.val % 64, _⟩) * W (ix2 c n)) (Fin.ext (by show k.val / 64 = 16 * 0 + k.val / 64; omega))
      (Fin.ext (by show k.val = 1024 * 0 + k.val; omega))
  · have e : (1024 + k.val) % 64 = k.val % 64 := by omega
    simp only [e]
    exact congrArg₂ (fun a c => X (ix4 b r a ⟨k.val % 64, _⟩) * W (ix2 c n)) (Fin.ext (by show (1024 + k.val) / 64 = 16 * 1 + k.val / 64; omega))
      (Fin.ext (by show 1024 + k.val = 1024 * 1 + k.val; omega))

/-- The column of a device. -/
def yOf (d : Dev nD) : Fin 2 := ⟨d.val % 2, Nat.mod_lt _ (by decide)⟩

variable (O : Dev nD → S2x1024x1024.Idx → Elt Ideal .f32) (Wo : Dev nD → S1024x2048.Idx → Elt Ideal .f32)

/-- The devices hold their blocks of the whole arrays. -/
def Blocks : Prop :=
  (∀ d b r k, O d (ix3 b r k) = X (ix4 b r ⟨16 * (yOf d).val + k.val / 64, by omega⟩ ⟨k.val % 64, by omega⟩))
    ∧ ∀ d k n, Wo d (ix2 k n) = W (ix2 ⟨1024 * (yOf d).val + k.val, by omega⟩ n)

variable {X W O Wo}

/-- A product of rows of a device's block is its half of the whole product. -/
theorem half_of (hB : Blocks X W O Wo) (d : Dev nD) (b : Fin 2) (r : Fin 1024) (n : Fin 2048) :
    (∑ k : Fin 1024, O d (ix3 b r k) * Wo d (ix2 k n) : EReal) = half X W (yOf d) b r n :=
  Finset.sum_congr rfl fun k _ => congrArg₂ (· * ·) (hB.1 d b r k) (hB.2 d k n)

theorem offA_eq : ∀ (d : Dev nD) (b : Fin 2), offA d b = ![b.val, 512 * (1 - d.val % 2) + 256 * (d.val / 2), 0] := by decide +kernel
theorem offB_eq : ∀ (d : Dev nD) (b : Fin 2), offB d b = ![b.val, 512 * (1 - d.val % 2) + 256 * (d.val / 2) + 32, 0] := by decide +kernel
theorem offC_eq : ∀ (d : Dev nD) (b : Fin 2), offC d b = ![b.val, 512 * (d.val % 2) + 256 * (d.val / 2), 0] := by decide +kernel

/-- Where a load of rows of a device's block reads. -/
theorem row_emb {R : Nat} {off : Fin 3 → Nat} {inb} (b : Fin 2) (i : Fin R) (k : Fin 1024) (r : Fin 1024)
    (h0 : off 0 = b.val) (h1 : off 1 + i.val = r.val) (h2 : off 2 = 0) :
    (Rect.unit (s := S2x1024x1024) off (⟨3, ![1, R, 1024]⟩ : Shape).size inb).emb (ix3 (n0 := 1) (n1 := R) (n2 := 1024) 0 i k) = ix3 b r k :=
  funext fun a => Fin.ext (by
    rw [rect_emb_unit_val]
    revert a
    exact axes3 (by simp [h0]) h1 (by simp [h2]))

/-- What the first scratch buffer holds: a row of the peer's rows, its own half. -/
theorem ysV_at (hB : Blocks X W O Wo) (d : Dev nD) (p : S2x256x2048.Idx) (r : Fin 1024)
    (hr : r.val = 512 * (1 - d.val % 2) + 256 * (d.val / 2) + (p 1).val) : ysV O Wo d p = half X W (yOf d) (p 0) r (p 2) := by
  rw [ysV]
  split
  · rename_i h
    refine (pay4_at _ _ _).trans (Eq.trans ?_ (half_of hB d _ _ _))
    refine Finset.sum_congr rfl fun k _ => congrArg (· * _) (congrArg (O d) ?_)
    exact row_emb (R := 32) (p 0) ⟨(p 1).val, h⟩ k r (congrFun (offA_eq d (p 0)) 0)
      ((congrArg (· + _) (congrFun (offA_eq d (p 0)) 1)).trans hr.symm) (congrFun (offA_eq d (p 0)) 2)
  · rename_i h
    have h1 := lt1 p
    refine (pay3_at _ _ _).trans (Eq.trans ?_ (half_of hB d _ _ _))
    refine Finset.sum_congr rfl fun k _ => congrArg (· * _) (congrArg (O d) ?_)
    refine row_emb (R := 224) (p 0) ⟨(p 1).val - 32, by omega⟩ k r (congrFun (offB_eq d (p 0)) 0)
      ((congrArg (· + _) (congrFun (offB_eq d (p 0)) 1)).trans ?_) (congrFun (offB_eq d (p 0)) 2)
    rw [hr]
    show 512 * (1 - d.val % 2) + 256 * (d.val / 2) + 32 + ((p 1).val - 32) = _
    omega

/-- What the buffer of own products holds. -/
theorem owV_at (hB : Blocks X W O Wo) (d : Dev nD) (p : S2x256x2048.Idx) (r : Fin 1024)
    (hr : r.val = 512 * (d.val % 2) + 256 * (d.val / 2) + (p 1).val) : owV O Wo d p = half X W (yOf d) (p 0) r (p 2) := by
  rw [owV]
  refine (pay6_at _ _ _).trans (Eq.trans ?_ (half_of hB d _ _ _))
  refine Finset.sum_congr rfl fun k _ => congrArg (· * _) (congrArg (O d) ?_)
  exact row_emb (R := 256) (p 0) (p 1) k r (congrFun (offC_eq d (p 0)) 0)
      ((congrArg (· + _) (congrFun (offC_eq d (p 0)) 1)).trans hr.symm) (congrFun (offC_eq d (p 0)) 2)

/-- The two halves in the order of a device are the two halves. -/
theorem halves_comm (d : Dev nD) (b : Fin 2) (r : Fin 1024) (n : Fin 2048) :
    (half X W (yOf d) b r n + half X W (yOf (yp d)) b r n : EReal) = half X W 0 b r n + half X W 1 b r n := by
  have h : (yOf d = 0 ∧ yOf (yp d) = 1) ∨ (yOf d = 1 ∧ yOf (yp d) = 0) := by
    have hd := dev_lt d
    have e : (yOf (yp d)).val = ((2 * (d.val / 2) + 1) - d.val % 2) % 2 := congrArg (· % 2) (yp_val d)
    have e' : (yOf d).val = d.val % 2 := rfl
    rcases Nat.mod_two_eq_zero_or_one d.val with h | h
    · exact .inl ⟨Fin.ext (by rw [e', h]; rfl), Fin.ext (by rw [e]; show _ = 1; omega)⟩
    · exact .inr ⟨Fin.ext (by rw [e', h]; rfl), Fin.ext (by rw [e]; show _ = 0; omega)⟩
  rcases h with ⟨e, e'⟩ | ⟨e, e'⟩
  · rw [e, e']
  · rw [e, e']; exact add_comm _ _

/-- A row of the sums of a device is a row of the whole product. -/
theorem xsV_at (hB : Blocks X W O Wo) (d : Dev nD) (p : S2x256x2048.Idx) (r : Fin 1024)
    (hr : r.val = 512 * (d.val % 2) + 256 * (d.val / 2) + (p 1).val) :
    (xsV O Wo d p : EReal) = half X W 0 (p 0) r (p 2) + half X W 1 (p 0) r (p 2) := by
  have hd := dev_lt d
  have hy := yp_val d
  refine Eq.trans (show (xsV O Wo d p : EReal) = owV O Wo d p + ysV O Wo (yp d) p from rfl) ?_
  rw [owV_at hB d p r hr, ysV_at hB (yp d) p r (by rw [hy, hr]; omega)]
  exact halves_comm d _ _ _

/-- The result of a device at an index: a row of the whole product. -/
theorem outV_at (hB : Blocks X W O Wo) (d : Dev nD) (p : S2x512x2048.Idx) (r : Fin 1024)
    (hr : r.val = 512 * (d.val % 2) + (p 1).val) :
    (outV O Wo d p : EReal) = half X W 0 (p 0) r (p 2) + half X W 1 (p 0) r (p 2) := by
  have hd := dev_lt d
  have hx := xp_val d
  have h1 : (p 1).val < 512 := (p 1).isLt
  rw [outV]
  refine xsV_at hB _ (rowOf p) r ?_
  show r.val = _ + (p 1).val % 256
  split
  · omega
  · rename_i h
    rw [hx]
    have ha : d.val / 2 = 0 ∨ d.val / 2 = 1 := by omega
    rcases ha with ha | ha <;> rw [ha] at h ⊢ <;> omega

end Halves

/-! ## The claim -/

section Claim

variable (m : (ℓ : Loc nD τ sig) → Buf (Elt Ideal) ℓ)

/-- The first argument of the call is the reshaped argument of the device. -/
theorem oOf_at (c : Dev nD) (b : Fin 2) (r k : Fin 1024) :
    oOf m c (ix3 b r k) = (m ((c.tc : Thread nD τ).loc main_arg0) : S2x1024x16x64.Idx → Elt Ideal .f32)
      (ix4 b r ⟨k.val / 64, by omega⟩ ⟨k.val % 64, by omega⟩) := by
  have e : oOf m c = shapeCast S2x1024x1024 (m ((c.tc : Thread nD τ).loc main_arg0) : S2x1024x16x64.Idx → Elt Ideal .f32)
      shapeCasts_S2x1024x16x64_S2x1024x1024 := by
    show StableHlo.after hostOps0 (V₀ m c) (Proc.devRef .tc main_v1) = _
    after_results <;> rfl
  rw [e]
  pointwise

/-- The block of a dimension cut along the columns. -/
theorem lin_y : ∀ c : Dev nD, Layout.meshLin [2, 2] c.val [1] = c.val % 2 := by decide

/-- A statement about two axes, and one about four, axis by axis. -/
theorem axes2 {P : Fin 2 → Prop} (h0 : P 0) (h1 : P 1) : ∀ a, P a := fun a => by
  match a with
  | ⟨0, _⟩ => exact h0
  | ⟨1, _⟩ => exact h1
theorem axes4 {P : Fin 4 → Prop} (h0 : P 0) (h1 : P 1) (h2 : P 2) (h3 : P 3) : ∀ a, P a := fun a => by
  match a with
  | ⟨0, _⟩ => exact h0
  | ⟨1, _⟩ => exact h1
  | ⟨2, _⟩ => exact h2
  | ⟨3, _⟩ => exact h3

variable {m} {X : (⟨4, ![2, 1024, 32, 64]⟩ : Shape).Idx → Elt Ideal .f32} {W : (⟨2, ![2048, 2048]⟩ : Shape).Idx → Elt Ideal .f32}

/-- Arguments that are the blocks of whole arrays reach the kernel as their blocks. -/
theorem blocks_of
    (h : ∀ c : Dev nD, m ((c.tc : Thread nD τ).loc main_arg0)
        = Layout.blockN ⟨4, ![2, 1024, 16, 64]⟩ ⟨4, ![2, 1024, 32, 64]⟩ (Layout.meshBlock [2, 2] ![[], [], [1], []] c) X
      ∧ m ((c.tc : Thread nD τ).loc main_arg1)
        = Layout.blockN ⟨2, ![1024, 2048]⟩ ⟨2, ![2048, 2048]⟩ (Layout.meshBlock [2, 2] ![[1], []] c) W) :
    Blocks X W (oOf m) (wOf m) := by
  refine ⟨fun d b r k => ?_, fun d k n => ?_⟩
  · rw [oOf_at, (h d).1]
    refine congrArg X (funext fun a => Fin.ext ?_)
    revert a
    refine axes4 ?_ ?_ ?_ ?_
    · show 0 * 2 + b.val = b.val; omega
    · show 0 * 1024 + r.val = r.val; omega
    · show Layout.meshLin [2, 2] d.val [1] * 16 + k.val / 64 = 16 * (d.val % 2) + k.val / 64
      rw [lin_y]; omega
    · show 0 * 64 + k.val % 64 = k.val % 64; omega
  · have e : wOf m d = (m ((d.tc : Thread nD τ).loc main_arg1) : S1024x2048.Idx → Elt Ideal .f32) := V_main_arg1 m d
    rw [e, (h d).2]
    refine congrArg W (funext fun a => Fin.ext ?_)
    revert a
    refine axes2 ?_ ?_
    · show Layout.meshLin [2, 2] d.val [1] * 1024 + k.val = 1024 * (d.val % 2) + k.val
      rw [lin_y]; omega
    · show 0 * 2048 + n.val = n.val; omega

/-- The result of a device is its block of the reference's product. -/
theorem out_block (hB : Blocks X W (oOf m) (wOf m)) (c : Dev nD) :
    outV (oOf m) (wOf m) c = Layout.blockN ⟨3, ![2, 512, 2048]⟩ ⟨3, ![2, 1024, 2048]⟩ (Layout.meshBlock [2, 2] ![[], [1], []] c)
      (Host.dotGeneral (F := Ideal) (φ₁ := .f32) (φ₂ := .f32) Cert.ReferenceIdeal.dot_S2x1024x2048_S2048x2048_S2x1024x2048_2_0_01_1_n_n none
        (shapeCast _ X Cert.ReferenceIdeal.Gen.facts.shapeCasts_S2x1024x32x64_S2x1024x2048) W) := by
  funext p
  have h1 : (p 1).val < 512 := (p 1).isLt
  have hr : 512 * (c.val % 2) + (p 1).val < 1024 := by omega
  refine (outV_at hB c p ⟨_, hr⟩ rfl).trans ?_
  refine ((ref_at X W (p 0) ⟨_, hr⟩ (p 2)).trans (ref_halves X W _ _ _)).symm.trans ?_
  refine congrArg (Host.dotGeneral (F := Ideal) (φ₁ := .f32) (φ₂ := .f32) Cert.ReferenceIdeal.dot_S2x1024x2048_S2048x2048_S2x1024x2048_2_0_01_1_n_n none
        (shapeCast _ X Cert.ReferenceIdeal.Gen.facts.shapeCasts_S2x1024x32x64_S2x1024x2048) W) (funext fun a => Fin.ext ?_)
  revert a
  refine axes3 ?_ ?_ ?_
  · show (p 0).val = 0 * 2 + (p 0).val; omega
  · show 512 * (c.val % 2) + (p 1).val = Layout.meshLin [2, 2] c.val [1] * 512 + (p 1).val
    rw [lin_y]; omega
  · show (p 2).val = 0 * 2048 + (p 2).val; omega

end Claim

end Cert.KernelIdeal.Own

end
-- ==== Proof.lean ====
/- The claims assembled: the three runs with their frames, the empty idealization, and the value over the ideal floats. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

section Frames

open Cert.KernelIdeal

/-- The two programs have the same bodies, so the same tables. -/
theorem bodies_eq : (Cert.Kernel.defs₀ (F := Bits) : Defs nD τ sig (Elt Bits) Λ₀) = defs₀ (F := Bits) :=
  congrArg Defs.onTc (funext fun l => funext fun x => by
    match l, x with
    | 0, (t, s) => rfl
    | ⟨_ + 1, h⟩, _ => exact absurd h (Nat.not_lt.2 (Nat.le_add_left _ _)))
theorem tables_eq : (Cert.Kernel.defs (F := Bits) : Defs nD τ sig (Elt Bits) (Pipeline.Sig Λ₀ (Fin 1) fun p => (pcfgs (F := Bits) p).Adm))
    = defs (F := Bits) := congrArg (Pipeline.defs pcfgs) bodies_eq

/-- The frame of the kernel, for any float values: its arguments kept, and every counter at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => ⟨(h.1 c).1, (h.1 c).2.1⟩, h.2⟩) (Own.run_main m ρ)

end Frames

/-- The frame of the kernel over the words. -/
theorem frame_kernel : Cert.quiescent_Kernel := fun m ρ _ => by
  have h := frame (F := Bits) m ρ
  rw [← tables_eq] at h
  exact h

/-- The frame of the kernel over the ideal values. -/
theorem frame_ideal : Cert.quiescent_KernelIdeal := fun m ρ _ => frame (F := Ideal) m ρ

/-- The frame of the reference: its run, and no semaphore is declared. -/
theorem frame_reference : Cert.quiescent_ReferenceIdeal := fun m ρ _ =>
  (θ_run Cert.ReferenceIdeal.defs _ _).mono (fun r h => ⟨fun c => ⟨(h c).2.1, (h c).2.2⟩,
      sem_eq_zero_of_no_sems (by decide) r.2⟩)
    (Cert.ReferenceIdeal.Value.run (F := Ideal) m ρ)

/-- The value over the ideal floats: each device's result is its rows of the reference's product. -/
theorem algebraic : Cert.algebraic_KernelIdeal_ReferenceIdeal := fun m g m' g' _ h =>
  ⟨_, (θ_run Cert.KernelIdeal.defs _ _).mono
      (fun _ r c => ⟨(r.1 c).2.2.trans (Cert.KernelIdeal.Own.out_block (Cert.KernelIdeal.Own.blocks_of h) c), (r.1 c).1, (r.1 c).2.1⟩)
      (Cert.KernelIdeal.Own.run_main (F := Ideal) m g),
    (θ_run Cert.ReferenceIdeal.defs _ _).mono (fun _ r => r 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
